-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 2048]⟩ ⟨3, ![8, 2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S4x7x64x2048 : Shape := ⟨4, ![4, 7, 64, 2048]⟩
abbrev S256x2048 : Shape := ⟨2, ![256, 2048]⟩
abbrev S4x2x64x2048 : Shape := ⟨4, ![4, 2, 64, 2048]⟩
abbrev S4x64x2048 : Shape := ⟨3, ![4, 64, 2048]⟩
abbrev S4x7 : Shape := ⟨2, ![4, 7]⟩
abbrev S_ : Shape := ⟨0, ![]⟩
abbrev S4x2 : Shape := ⟨2, ![4, 2]⟩
abbrev S4 : Shape := ⟨1, ![4]⟩
abbrev S1x256x2048 : Shape := ⟨3, ![1, 256, 2048]⟩
abbrev S1 : Shape := ⟨1, ![1]⟩
abbrev S1x64x2048 : Shape := ⟨3, ![1, 64, 2048]⟩
abbrev S64x2048 : Shape := ⟨2, ![64, 2048]⟩
abbrev S1x1 : Shape := ⟨2, ![1, 1]⟩
abbrev S1x1x64x2048 : Shape := ⟨4, ![1, 1, 64, 2048]⟩
abbrev S64 : Shape := ⟨1, ![64]⟩
abbrev S64x1 : Shape := ⟨2, ![64, 1]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S4x7x64x2048, .f32⟩
  | .local _ .vmem, ⟨3, _⟩ => ⟨S4x7x64x2048, .f32⟩
  | .local _ .vmem, ⟨4, _⟩ => ⟨S256x2048, .f32⟩
  | .local _ .vmem, ⟨5, _⟩ => ⟨S4x2x64x2048, .f32⟩
  | .local _ .vmem, ⟨6, _⟩ => ⟨S4x64x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 2 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v8 : BitVec 32 := Scalar.muli v2 c256_i32
  let c0_i32_5 : BitVec 32 := 0#32
  ![0, v8.toNat, 0]
def k0_off2 (d0 : Dev nD) (c0_i32_7 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c256_i32_6 : BitVec 32 := 256#32
  let v11 : BitVec 32 := Scalar.muli v7 c256_i32_6
  let v12 : BitVec 32 := Scalar.addi v11 c0_i32_7
  let c0_i32_12 : BitVec 32 := 0#32
  ![v12.toNat, 0]
def k0_off3 (d0 : Dev nD) (c1_i32_0 : BitVec 32) (c8_i32_1 : BitVec 32) (c128_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c1_i32_0
  let v4 : BitVec 32 := Scalar.addi v3 c8_i32_1
  let c8_i32_2 : BitVec 32 := 8#32
  let v5 : BitVec 32 := Scalar.remsi v4 c8_i32_2
  let c256_i32_19 : BitVec 32 := 256#32
  let v25 : BitVec 32 := Scalar.muli v5 c256_i32_19
  let v26 : BitVec 32 := Scalar.addi v25 c128_i32
  let c0_i32_23 : BitVec 32 := 0#32
  ![v26.toNat, 0]
def k0_off3_at (r : Fin 26) : BitVec 32 × BitVec 32 × BitVec 32 :=
  if r.val < 13 then
    if r.val < 6 then
      if r.val < 3 then
        if r.val < 1 then
          (1#32, 8#32, 128#32)
        else
          if r.val < 2 then
            (1#32, 8#32, 192#32)
          else
            (1#32, 16#32, 0#32)
      else
        if r.val < 4 then
          (1#32, 16#32, 64#32)
        else
          if r.val < 5 then
            (4294967295#32, 16#32, 128#32)
          else
            (4294967295#32, 16#32, 192#32)
    else
      if r.val < 9 then
        if r.val < 7 then
          (2#32, 16#32, 0#32)
        else
          if r.val < 8 then
            (2#32, 16#32, 64#32)
          else
            (4294967294#32, 16#32, 128#32)
      else
        if r.val < 11 then
          if r.val < 10 then
            (4294967294#32, 16#32, 192#32)
          else
            (3#32, 16#32, 0#32)
        else
          if r.val < 12 then
            (3#32, 16#32, 64#32)
          else
            (4294967293#32, 16#32, 128#32)
  else
    if r.val < 19 then
      if r.val < 16 then
        if r.val < 14 then
          (4294967293#32, 16#32, 192#32)
        else
          if r.val < 15 then
            (4#32, 16#32, 0#32)
          else
            (4#32, 16#32, 64#32)
      else
        if r.val < 17 then
          (4294967292#32, 16#32, 128#32)
        else
          if r.val < 18 then
            (4294967292#32, 16#32, 192#32)
          else
            (5#32, 16#32, 0#32)
    else
      if r.val < 22 then
        if r.val < 20 then
          (5#32, 16#32, 64#32)
        else
          if r.val < 21 then
            (4294967291#32, 16#32, 128#32)
          else
            (4294967291#32, 16#32, 192#32)
      else
        if r.val < 24 then
          if r.val < 23 then
            (6#32, 16#32, 0#32)
          else
            (6#32, 16#32, 64#32)
        else
          if r.val < 25 then
            (4294967290#32, 16#32, 128#32)
          else
            (4294967290#32, 16#32, 192#32)
def k0_off4 (d0 : Dev nD) (c1_i32_29 : BitVec 32) (c0_i32_32 : BitVec 32) : Fin 3 → Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : BitVec 32 := Scalar.subi v2 c1_i32_29
  let c16_i32 : BitVec 32 := 16#32
  let v40 : BitVec 32 := Scalar.addi v39 c16_i32
  let c8_i32_30 : BitVec 32 := 8#32
  let v41 : BitVec 32 := Scalar.remsi v40 c8_i32_30
  let c256_i32_31 : BitVec 32 := 256#32
  let v42 : BitVec 32 := Scalar.muli v41 c256_i32_31
  let v43 : BitVec 32 := Scalar.addi v42 c0_i32_32
  let c0_i32_40 : BitVec 32 := 0#32
  ![0, v43.toNat, 0]
def k0_off4_at (r : Fin 28) : BitVec 32 × BitVec 32 :=
  if r.val < 14 then
    if r.val < 7 then
      if r.val < 3 then
        if r.val < 1 then
          (1#32, 0#32)
        else
          if r.val < 2 then
            (1#32, 64#32)
          else
            (4294967295#32, 128#32)
      else
        if r.val < 5 then
          if r.val < 4 then
            (4294967295#32, 192#32)
          else
            (2#32, 0#32)
        else
          if r.val < 6 then
            (2#32, 64#32)
          else
            (4294967294#32, 128#32)
    else
      if r.val < 10 then
        if r.val < 8 then
          (4294967294#32, 192#32)
        else
          if r.val < 9 then
            (3#32, 0#32)
          else
            (3#32, 64#32)
      else
        if r.val < 12 then
          if r.val < 11 then
            (4294967293#32, 128#32)
          else
            (4294967293#32, 192#32)
        else
          if r.val < 13 then
            (4#32, 0#32)
          else
            (4#32, 64#32)
  else
    if r.val < 21 then
      if r.val < 17 then
        if r.val < 15 then
          (4294967292#32, 128#32)
        else
          if r.val < 16 then
            (4294967292#32, 192#32)
          else
            (5#32, 0#32)
      else
        if r.val < 19 then
          if r.val < 18 then
            (5#32, 64#32)
          else
            (4294967291#32, 128#32)
        else
          if r.val < 20 then
            (4294967291#32, 192#32)
          else
            (6#32, 0#32)
    else
      if r.val < 24 then
        if r.val < 22 then
          (6#32, 64#32)
        else
          if r.val < 23 then
            (4294967290#32, 128#32)
          else
            (4294967290#32, 192#32)
      else
        if r.val < 26 then
          if r.val < 25 then
            (7#32, 0#32)
          else
            (7#32, 64#32)
        else
          if r.val < 27 then
            (4294967289#32, 128#32)
          else
            (4294967289#32, 192#32)
def k0_dev1 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_80 : BitVec 32 := 1#32
  let v84 : BitVec 32 := Scalar.muli v5 c1_i32_80
  let v85 : BitVec 32 := Scalar.addi c0_i32_81 v84
  v85.toNat
def k0_dev2 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_83 : BitVec 32 := 1#32
  let v86 : BitVec 32 := Scalar.muli v7 c1_i32_83
  let v87 : BitVec 32 := Scalar.addi c0_i32_84 v86
  v87.toNat
def k0_dev3 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_94 : BitVec 32 := 1#32
  let v90 : BitVec 32 := Scalar.muli v7 c1_i32_94
  let v91 : BitVec 32 := Scalar.addi c0_i32_95 v90
  v91.toNat
def k0_dev4 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_106 : BitVec 32 := 1#32
  let v99 : BitVec 32 := Scalar.muli v7 c1_i32_106
  let v100 : BitVec 32 := Scalar.addi c0_i32_107 v99
  v100.toNat
def k0_dev5 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_118 : BitVec 32 := 1#32
  let v108 : BitVec 32 := Scalar.muli v5 c1_i32_118
  let v109 : BitVec 32 := Scalar.addi c0_i32_119 v108
  v109.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_130 : BitVec 32 := 1#32
  let v117 : BitVec 32 := Scalar.muli v5 c1_i32_130
  let v118 : BitVec 32 := Scalar.addi c0_i32_131 v117
  v118.toNat
def k0_off5 (d0 : Dev nD) (c1_i32_212 : BitVec 32) (c16_i32_213 : BitVec 32) (c0_i32_223 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v188 : BitVec 32 := Scalar.subi v2 c1_i32_212
  let v189 : BitVec 32 := Scalar.addi v188 c16_i32_213
  let c8_i32_214 : BitVec 32 := 8#32
  let v190 : BitVec 32 := Scalar.remsi v189 c8_i32_214
  let c256_i32_222 : BitVec 32 := 256#32
  let v196 : BitVec 32 := Scalar.muli v190 c256_i32_222
  let v197 : BitVec 32 := Scalar.addi v196 c0_i32_223
  let v198 : Index := Scalar.indexCast v197
  let c0_224 : Index := 0#32
  ![v198.toNat, 0]
def k0_off5_at (r : Fin 34) : BitVec 32 × BitVec 32 × BitVec 32 :=
  if r.val < 17 then
    if r.val < 8 then
      if r.val < 4 then
        if r.val < 2 then
          if r.val < 1 then
            (1#32, 16#32, 0#32)
          else
            (1#32, 16#32, 64#32)
        else
          if r.val < 3 then
            (4294967295#32, 16#32, 128#32)
          else
            (4294967295#32, 16#32, 192#32)
      else
        if r.val < 6 then
          if r.val < 5 then
            (2#32, 16#32, 0#32)
          else
            (2#32, 16#32, 64#32)
        else
          if r.val < 7 then
            (4294967294#32, 16#32, 128#32)
          else
            (4294967294#32, 16#32, 192#32)
    else
      if r.val < 12 then
        if r.val < 10 then
          if r.val < 9 then
            (3#32, 16#32, 0#32)
          else
            (3#32, 16#32, 64#32)
        else
          if r.val < 11 then
            (4294967293#32, 16#32, 128#32)
          else
            (4294967293#32, 16#32, 192#32)
      else
        if r.val < 14 then
          if r.val < 13 then
            (4#32, 16#32, 0#32)
          else
            (4#32, 16#32, 64#32)
        else
          if r.val < 15 then
            (4294967292#32, 16#32, 128#32)
          else
            if r.val < 16 then
              (4294967292#32, 16#32, 192#32)
            else
              (5#32, 16#32, 0#32)
  else
    if r.val < 25 then
      if r.val < 21 then
        if r.val < 19 then
          if r.val < 18 then
            (5#32, 16#32, 64#32)
          else
            (4294967291#32, 16#32, 128#32)
        else
          if r.val < 20 then
            (4294967291#32, 16#32, 192#32)
          else
            (6#32, 16#32, 0#32)
      else
        if r.val < 23 then
          if r.val < 22 then
            (6#32, 16#32, 64#32)
          else
            (4294967290#32, 16#32, 128#32)
        else
          if r.val < 24 then
            (4294967290#32, 16#32, 192#32)
          else
            (7#32, 16#32, 0#32)
    else
      if r.val < 29 then
        if r.val < 27 then
          if r.val < 26 then
            (7#32, 16#32, 64#32)
          else
            (4294967289#32, 16#32, 128#32)
        else
          if r.val < 28 then
            (4294967289#32, 16#32, 192#32)
          else
            (1#32, 8#32, 128#32)
      else
        if r.val < 31 then
          if r.val < 30 then
            (1#32, 8#32, 192#32)
          else
            (0#32, 16#32, 0#32)
        else
          if r.val < 32 then
            (0#32, 16#32, 64#32)
          else
            if r.val < 33 then
              (0#32, 16#32, 128#32)
            else
              (0#32, 16#32, 192#32)
def k0_dev7 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_233 : BitVec 32 := 1#32
  let v202 : BitVec 32 := Scalar.muli v7 c1_i32_233
  let v203 : BitVec 32 := Scalar.addi c0_i32_234 v202
  v203.toNat
def k0_dev8 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_284 : BitVec 32 := 1#32
  let v243 : BitVec 32 := Scalar.muli v7 c1_i32_284
  let v244 : BitVec 32 := Scalar.addi c0_i32_285 v243
  v244.toNat
def k0_dev9 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_335 : BitVec 32 := 1#32
  let v284 : BitVec 32 := Scalar.muli v5 c1_i32_335
  let v285 : BitVec 32 := Scalar.addi c0_i32_336 v284
  v285.toNat
def k0_dev10 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_386 : BitVec 32 := 1#32
  let v325 : BitVec 32 := Scalar.muli v5 c1_i32_386
  let v326 : BitVec 32 := Scalar.addi c0_i32_387 v325
  v326.toNat
def k0_dev11 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_488 : BitVec 32 := 1#32
  let v410 : BitVec 32 := Scalar.muli v7 c1_i32_488
  let v411 : BitVec 32 := Scalar.addi c0_i32_489 v410
  v411.toNat
def k0_dev12 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_539 : BitVec 32 := 1#32
  let v451 : BitVec 32 := Scalar.muli v7 c1_i32_539
  let v452 : BitVec 32 := Scalar.addi c0_i32_540 v451
  v452.toNat
def k0_dev13 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_590 : BitVec 32 := 1#32
  let v492 : BitVec 32 := Scalar.muli v5 c1_i32_590
  let v493 : BitVec 32 := Scalar.addi c0_i32_591 v492
  v493.toNat
def k0_dev14 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_641 : BitVec 32 := 1#32
  let v533 : BitVec 32 := Scalar.muli v5 c1_i32_641
  let v534 : BitVec 32 := Scalar.addi c0_i32_642 v533
  v534.toNat
def k0_dev15 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_742 : BitVec 32 := 1#32
  let v618 : BitVec 32 := Scalar.muli v7 c1_i32_742
  let v619 : BitVec 32 := Scalar.addi c0_i32_743 v618
  v619.toNat
def k0_dev16 (d0 : Dev nD) : Nat :=
  let c0_i32_794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_793 : BitVec 32 := 1#32
  let v659 : BitVec 32 := Scalar.muli v7 c1_i32_793
  let v660 : BitVec 32 := Scalar.addi c0_i32_794 v659
  v660.toNat
def k0_dev17 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_844 : BitVec 32 := 1#32
  let v700 : BitVec 32 := Scalar.muli v5 c1_i32_844
  let v701 : BitVec 32 := Scalar.addi c0_i32_845 v700
  v701.toNat
def k0_dev18 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_895 : BitVec 32 := 1#32
  let v741 : BitVec 32 := Scalar.muli v5 c1_i32_895
  let v742 : BitVec 32 := Scalar.addi c0_i32_896 v741
  v742.toNat
def k0_dev19 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_996 : BitVec 32 := 1#32
  let v826 : BitVec 32 := Scalar.muli v7 c1_i32_996
  let v827 : BitVec 32 := Scalar.addi c0_i32_997 v826
  v827.toNat
def k0_dev20 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1047 : BitVec 32 := 1#32
  let v867 : BitVec 32 := Scalar.muli v7 c1_i32_1047
  let v868 : BitVec 32 := Scalar.addi c0_i32_1048 v867
  v868.toNat
def k0_dev21 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1098 : BitVec 32 := 1#32
  let v908 : BitVec 32 := Scalar.muli v5 c1_i32_1098
  let v909 : BitVec 32 := Scalar.addi c0_i32_1099 v908
  v909.toNat
def k0_dev22 (d0 : Dev nD) : Nat :=
  let c0_i32_1150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1149 : BitVec 32 := 1#32
  let v949 : BitVec 32 := Scalar.muli v5 c1_i32_1149
  let v950 : BitVec 32 := Scalar.addi c0_i32_1150 v949
  v950.toNat
def k0_dev23 (d0 : Dev nD) : Nat :=
  let c0_i32_1250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1249 : BitVec 32 := 1#32
  let v1034 : BitVec 32 := Scalar.muli v7 c1_i32_1249
  let v1035 : BitVec 32 := Scalar.addi c0_i32_1250 v1034
  v1035.toNat
def k0_dev24 (d0 : Dev nD) : Nat :=
  let c0_i32_1301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1300 : BitVec 32 := 1#32
  let v1075 : BitVec 32 := Scalar.muli v7 c1_i32_1300
  let v1076 : BitVec 32 := Scalar.addi c0_i32_1301 v1075
  v1076.toNat
def k0_dev25 (d0 : Dev nD) : Nat :=
  let c0_i32_1352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1351 : BitVec 32 := 1#32
  let v1116 : BitVec 32 := Scalar.muli v5 c1_i32_1351
  let v1117 : BitVec 32 := Scalar.addi c0_i32_1352 v1116
  v1117.toNat
def k0_dev26 (d0 : Dev nD) : Nat :=
  let c0_i32_1403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1402 : BitVec 32 := 1#32
  let v1157 : BitVec 32 := Scalar.muli v5 c1_i32_1402
  let v1158 : BitVec 32 := Scalar.addi c0_i32_1403 v1157
  v1158.toNat
def k0_dev27 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1502 : BitVec 32 := 1#32
  let v1242 : BitVec 32 := Scalar.muli v7 c1_i32_1502
  let v1243 : BitVec 32 := Scalar.addi c0_i32_1503 v1242
  v1243.toNat
def k0_dev28 (d0 : Dev nD) : Nat :=
  let c0_i32_1554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1553 : BitVec 32 := 1#32
  let v1283 : BitVec 32 := Scalar.muli v7 c1_i32_1553
  let v1284 : BitVec 32 := Scalar.addi c0_i32_1554 v1283
  v1284.toNat
def k0_dev29 (d0 : Dev nD) : Nat :=
  let c0_i32_1605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1604 : BitVec 32 := 1#32
  let v1324 : BitVec 32 := Scalar.muli v5 c1_i32_1604
  let v1325 : BitVec 32 := Scalar.addi c0_i32_1605 v1324
  v1325.toNat
def k0_dev30 (d0 : Dev nD) : Nat :=
  let c0_i32_1656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1655 : BitVec 32 := 1#32
  let v1365 : BitVec 32 := Scalar.muli v5 c1_i32_1655
  let v1366 : BitVec 32 := Scalar.addi c0_i32_1656 v1365
  v1366.toNat
def k0_off6 (d0 : Dev nD) (c0_i32_2101 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c256_i32_2100 : BitVec 32 := 256#32
  let v1639 : BitVec 32 := Scalar.muli v7 c256_i32_2100
  let v1640 : BitVec 32 := Scalar.addi v1639 c0_i32_2101
  let v1641 : Index := Scalar.indexCast v1640
  let c0_2102 : Index := 0#32
  ![v1641.toNat, 0]
def k0_dev31 (d0 : Dev nD) : Nat :=
  let c0_i32_2117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2116 : BitVec 32 := 1#32
  let v1664 : BitVec 32 := Scalar.muli v7 c1_i32_2116
  let v1665 : BitVec 32 := Scalar.addi c0_i32_2117 v1664
  v1665.toNat
def k0_dev32 (d0 : Dev nD) : Nat :=
  let c0_i32_2144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2143 : BitVec 32 := 1#32
  let v1703 : BitVec 32 := Scalar.muli v7 c1_i32_2143
  let v1704 : BitVec 32 := Scalar.addi c0_i32_2144 v1703
  v1704.toNat
def k0_dev33 (d0 : Dev nD) : Nat :=
  let c0_i32_2171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2170 : BitVec 32 := 1#32
  let v1742 : BitVec 32 := Scalar.muli v5 c1_i32_2170
  let v1743 : BitVec 32 := Scalar.addi c0_i32_2171 v1742
  v1743.toNat
def k0_dev34 (d0 : Dev nD) : Nat :=
  let c0_i32_2198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2197 : BitVec 32 := 1#32
  let v1781 : BitVec 32 := Scalar.muli v5 c1_i32_2197
  let v1782 : BitVec 32 := Scalar.addi c0_i32_2198 v1781
  v1782.toNat
def k0_dev35 (d0 : Dev nD) : Nat :=
  let c0_i32_2222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2221 : BitVec 32 := 1#32
  let v1797 : BitVec 32 := Scalar.muli v7 c1_i32_2221
  let v1798 : BitVec 32 := Scalar.addi c0_i32_2222 v1797
  v1798.toNat
def k0_dev36 (d0 : Dev nD) : Nat :=
  let c0_i32_2257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2256 : BitVec 32 := 1#32
  let v1823 : BitVec 32 := Scalar.muli v7 c1_i32_2256
  let v1824 : BitVec 32 := Scalar.addi c0_i32_2257 v1823
  v1824.toNat
def k0_dev37 (d0 : Dev nD) : Nat :=
  let c0_i32_2292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2291 : BitVec 32 := 1#32
  let v1849 : BitVec 32 := Scalar.muli v5 c1_i32_2291
  let v1850 : BitVec 32 := Scalar.addi c0_i32_2292 v1849
  v1850.toNat
def k0_dev38 (d0 : Dev nD) : Nat :=
  let c0_i32_2327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2326 : BitVec 32 := 1#32
  let v1875 : BitVec 32 := Scalar.muli v5 c1_i32_2326
  let v1876 : BitVec 32 := Scalar.addi c0_i32_2327 v1875
  v1876.toNat
def k0_dev39 (d0 : Dev nD) : Nat :=
  let c0_i32_2365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2364 : BitVec 32 := 1#32
  let v1902 : BitVec 32 := Scalar.muli v7 c1_i32_2364
  let v1903 : BitVec 32 := Scalar.addi c0_i32_2365 v1902
  v1903.toNat
def k0_dev40 (d0 : Dev nD) : Nat :=
  let c0_i32_2403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2402 : BitVec 32 := 1#32
  let v1929 : BitVec 32 := Scalar.muli v7 c1_i32_2402
  let v1930 : BitVec 32 := Scalar.addi c0_i32_2403 v1929
  v1930.toNat
def k0_dev41 (d0 : Dev nD) : Nat :=
  let c0_i32_2441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2440 : BitVec 32 := 1#32
  let v1956 : BitVec 32 := Scalar.muli v5 c1_i32_2440
  let v1957 : BitVec 32 := Scalar.addi c0_i32_2441 v1956
  v1957.toNat
def k0_dev42 (d0 : Dev nD) : Nat :=
  let c0_i32_2479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2478 : BitVec 32 := 1#32
  let v1983 : BitVec 32 := Scalar.muli v5 c1_i32_2478
  let v1984 : BitVec 32 := Scalar.addi c0_i32_2479 v1983
  v1984.toNat
def k0_dev43 (d0 : Dev nD) : Nat :=
  let c0_i32_2517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2516 : BitVec 32 := 1#32
  let v2010 : BitVec 32 := Scalar.muli v7 c1_i32_2516
  let v2011 : BitVec 32 := Scalar.addi c0_i32_2517 v2010
  v2011.toNat
def k0_dev44 (d0 : Dev nD) : Nat :=
  let c0_i32_2555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2554 : BitVec 32 := 1#32
  let v2037 : BitVec 32 := Scalar.muli v7 c1_i32_2554
  let v2038 : BitVec 32 := Scalar.addi c0_i32_2555 v2037
  v2038.toNat
def k0_dev45 (d0 : Dev nD) : Nat :=
  let c0_i32_2593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2592 : BitVec 32 := 1#32
  let v2064 : BitVec 32 := Scalar.muli v5 c1_i32_2592
  let v2065 : BitVec 32 := Scalar.addi c0_i32_2593 v2064
  v2065.toNat
def k0_dev46 (d0 : Dev nD) : Nat :=
  let c0_i32_2631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2630 : BitVec 32 := 1#32
  let v2091 : BitVec 32 := Scalar.muli v5 c1_i32_2630
  let v2092 : BitVec 32 := Scalar.addi c0_i32_2631 v2091
  v2092.toNat
def k0_dev47 (d0 : Dev nD) : Nat :=
  let c0_i32_2669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2668 : BitVec 32 := 1#32
  let v2118 : BitVec 32 := Scalar.muli v7 c1_i32_2668
  let v2119 : BitVec 32 := Scalar.addi c0_i32_2669 v2118
  v2119.toNat
def k0_dev48 (d0 : Dev nD) : Nat :=
  let c0_i32_2707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2706 : BitVec 32 := 1#32
  let v2145 : BitVec 32 := Scalar.muli v7 c1_i32_2706
  let v2146 : BitVec 32 := Scalar.addi c0_i32_2707 v2145
  v2146.toNat
def k0_dev49 (d0 : Dev nD) : Nat :=
  let c0_i32_2745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2744 : BitVec 32 := 1#32
  let v2172 : BitVec 32 := Scalar.muli v5 c1_i32_2744
  let v2173 : BitVec 32 := Scalar.addi c0_i32_2745 v2172
  v2173.toNat
def k0_dev50 (d0 : Dev nD) : Nat :=
  let c0_i32_2783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2782 : BitVec 32 := 1#32
  let v2199 : BitVec 32 := Scalar.muli v5 c1_i32_2782
  let v2200 : BitVec 32 := Scalar.addi c0_i32_2783 v2199
  v2200.toNat
def k0_dev51 (d0 : Dev nD) : Nat :=
  let c0_i32_2821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2820 : BitVec 32 := 1#32
  let v2226 : BitVec 32 := Scalar.muli v7 c1_i32_2820
  let v2227 : BitVec 32 := Scalar.addi c0_i32_2821 v2226
  v2227.toNat
def k0_dev52 (d0 : Dev nD) : Nat :=
  let c0_i32_2859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2858 : BitVec 32 := 1#32
  let v2253 : BitVec 32 := Scalar.muli v7 c1_i32_2858
  let v2254 : BitVec 32 := Scalar.addi c0_i32_2859 v2253
  v2254.toNat
def k0_dev53 (d0 : Dev nD) : Nat :=
  let c0_i32_2897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2896 : BitVec 32 := 1#32
  let v2280 : BitVec 32 := Scalar.muli v5 c1_i32_2896
  let v2281 : BitVec 32 := Scalar.addi c0_i32_2897 v2280
  v2281.toNat
def k0_dev54 (d0 : Dev nD) : Nat :=
  let c0_i32_2935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2934 : BitVec 32 := 1#32
  let v2307 : BitVec 32 := Scalar.muli v5 c1_i32_2934
  let v2308 : BitVec 32 := Scalar.addi c0_i32_2935 v2307
  v2308.toNat
def k0_dev55 (d0 : Dev nD) : Nat :=
  let c0_i32_2973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2972 : BitVec 32 := 1#32
  let v2334 : BitVec 32 := Scalar.muli v7 c1_i32_2972
  let v2335 : BitVec 32 := Scalar.addi c0_i32_2973 v2334
  v2335.toNat
def k0_dev56 (d0 : Dev nD) : Nat :=
  let c0_i32_3011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3010 : BitVec 32 := 1#32
  let v2361 : BitVec 32 := Scalar.muli v7 c1_i32_3010
  let v2362 : BitVec 32 := Scalar.addi c0_i32_3011 v2361
  v2362.toNat
def k0_dev57 (d0 : Dev nD) : Nat :=
  let c0_i32_3049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3048 : BitVec 32 := 1#32
  let v2388 : BitVec 32 := Scalar.muli v5 c1_i32_3048
  let v2389 : BitVec 32 := Scalar.addi c0_i32_3049 v2388
  v2389.toNat
def k0_dev58 (d0 : Dev nD) : Nat :=
  let c0_i32_3087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3086 : BitVec 32 := 1#32
  let v2415 : BitVec 32 := Scalar.muli v5 c1_i32_3086
  let v2416 : BitVec 32 := Scalar.addi c0_i32_3087 v2415
  v2416.toNat
def k0_dev59 (d0 : Dev nD) : Nat :=
  let c0_i32_3552_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3551_r0 : BitVec 32 := 1#32
  let v2667_r0 : BitVec 32 := Scalar.muli v5 c1_i32_3551_r0
  let v2668_r0 : BitVec 32 := Scalar.addi c0_i32_3552_r0 v2667_r0
  v2668_r0.toNat
def k0_dev60 (d0 : Dev nD) : Nat :=
  let c0_i32_3555_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3554_r0 : BitVec 32 := 1#32
  let v2669_r0 : BitVec 32 := Scalar.muli v7 c1_i32_3554_r0
  let v2670_r0 : BitVec 32 := Scalar.addi c0_i32_3555_r0 v2669_r0
  v2670_r0.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.RingProgram.lean ====
/-
# The ring all-reduce, as a program over lanes and hops

The printed body is a straight line of a few hundred operations.  Here the same line is written as what it is:
a prologue, seven reduce-scatter hops of four lanes, the normalisation of each lane's own rows, seven
all-gather hops of four lanes, and the closing exchange of signals.  `body_eq` says that the two are the same
program.
-/
module

public import proofs.«01_k».proof.Proof.Gen.KernelIdeal
public import proofs.«01_k».proof.Proof.Gen.KernelIdeal.Skeleton

@[expose] public section

noncomputable section

namespace Cert.KernelIdeal.RingProof

open Cert.KernelIdeal Cert.KernelIdeal.Gen
open Idealize.ShloMosaic Idealize.ShloMosaic.TcCoe
open Idealize.SL.Sem

variable {F : FTy → Type} [FloatOps F]

/-- The programs of a device's body. -/
abbrev Bd (F : FTy → Type) [FloatOps F] : Type 1 := Prog (TpuEff nD τ sig (Elt F) Λ₀ .tc) PUnit

/-! ## The memrefs and cells of a lane and a hop -/

/-- A remote copy's cell lies in its table. -/
theorem inb_cell (l : Fin 4) (s : Fin 7) : ∀ a, (![l.val, s.val] : Fin 2 → Nat) a + S1x1.size a ≤ S4x7.size a := by
  revert l s; decide
/-- A landing slot lies in its buffer. -/
theorem inb_slot (l : Fin 4) (s : Fin 7) :
    ∀ a, (![l.val, s.val, 0, 0] : Fin 4 → Nat) a + S1x1x64x2048.size a ≤ S4x7x64x2048.size a := by
  revert l s; decide
/-- A staging copy's cell lies in its table. -/
theorem inb_accCell (l : Fin 4) (b : Fin 2) : ∀ a, (![l.val, b.val] : Fin 2 → Nat) a + S1x1.size a ≤ S4x2.size a := by
  revert l b; decide
/-- A staging slot lies in its buffer. -/
theorem inb_acc (l : Fin 4) (b : Fin 2) :
    ∀ a, (![l.val, b.val, 0, 0] : Fin 4 → Nat) a + S1x1x64x2048.size a ≤ S4x2x64x2048.size a := by
  revert l b; decide
/-- A residual copy's cell lies in its table. -/
theorem inb_resCell (l : Fin 4) : ∀ a, (![l.val] : Fin 1 → Nat) a + S1.size a ≤ S4.size a := by
  revert l; decide
/-- A residual slot lies in its buffer. -/
theorem inb_res (l : Fin 4) : ∀ a, (![l.val, 0, 0] : Fin 3 → Nat) a + S1x64x2048.size a ≤ S4x64x2048.size a := by
  revert l; decide
/-- A lane's part of the own chunk lies in its buffer. -/
theorem inb_stage (l : Fin 4) : ∀ a, (![64 * l.val, 0] : Fin 2 → Nat) a + S64x2048.size a ≤ S256x2048.size a := by
  revert l; decide

/-- The cell at lane `l`, hop `s` of a table of cells. -/
abbrev cellAt (A : DmaSems sig S4x7) (l : Fin 4) (s : Fin 7) : DmaSem sig :=
  ((A.slice (Rect.unit (s := S4x7) ![l.val, s.val] S1x1.size (inb_cell l s))).squeeze S_ squeezes_S1x1_S_).sem

/-- The staging cell of lane `l`, parity `b`. -/
abbrev accCell (l : Fin 4) (b : Fin 2) : DmaSem sig :=
  ((cc0_scratch10.slice (Rect.unit (s := S4x2) ![l.val, b.val] S1x1.size (inb_accCell l b))).squeeze S_ squeezes_S1x1_S_).sem

/-- The cell of lane `l`'s copy of the residual. -/
abbrev resCell (l : Fin 4) : DmaSem sig :=
  ((cc0_scratch11.slice (Rect.unit (s := S4) ![l.val] S1.size (inb_resCell l))).squeeze S_ squeezes_S1_S_).sem

/-- The landing slots: `S4x7x64x2048` scratches, one slot of 64 rows per lane and hop. -/
abbrev slotRect (l : Fin 4) (s : Fin 7) : Rect S4x7x64x2048 := Rect.unit (s := S4x7x64x2048) ![l.val, s.val, 0, 0] S1x1x64x2048.size (inb_slot l s)

abbrev slotOf (A : Memref sig .tc .vmem S4x7x64x2048 .f32) (l : Fin 4) (s : Fin 7) : Memref sig .tc .vmem S64x2048 .f32 :=
  (A.slice (slotRect l s) (fun _ => rfl)).squeeze S64x2048 squeezes_S1x1x64x2048_S64x2048

/-- The whole gain lies in its buffer. -/
theorem inb_gam : ∀ a, (![0] : Fin 1 → Nat) a + S2048.size a ≤ S2048.size a := by decide

abbrev rsBuf : Memref sig .tc .vmem S4x7x64x2048 .f32 := Memref.whole cc0_scratch0
abbrev agBuf : Memref sig .tc .vmem S4x7x64x2048 .f32 := Memref.whole cc0_scratch1
abbrev stageBuf : Memref sig .tc .vmem S256x2048 .f32 := Memref.whole cc0_scratch2
abbrev accBuf : Memref sig .tc .vmem S4x2x64x2048 .f32 := Memref.whole cc0_scratch3
abbrev resBuf : Memref sig .tc .vmem S4x64x2048 .f32 := Memref.whole cc0_scratch4
abbrev outBuf : Memref sig .tc .vmem S2048x2048 .f32 := Memref.whole cc0_stg1_0
abbrev gamBuf : Memref sig .tc .vmem S2048 .f32 := Memref.whole cc0_stg0_0
abbrev parBuf : Memref sig .tc .hbm S1x2048x2048 .f32 := Memref.whole main_arg0
abbrev rsdBuf : Memref sig .tc .hbm S2048x2048 .f32 := Memref.whole main_arg1

abbrev accRect (l : Fin 4) (b : Fin 2) : Rect S4x2x64x2048 := Rect.unit (s := S4x2x64x2048) ![l.val, b.val, 0, 0] S1x1x64x2048.size (inb_acc l b)
abbrev accSlot (l : Fin 4) (b : Fin 2) : Memref sig .tc .vmem S64x2048 .f32 :=
  (accBuf.slice (accRect l b) (fun _ => rfl)).squeeze S64x2048 squeezes_S1x1x64x2048_S64x2048
abbrev resRect (l : Fin 4) : Rect S4x64x2048 := Rect.unit (s := S4x64x2048) ![l.val, 0, 0] S1x64x2048.size (inb_res l)
abbrev resSlot (l : Fin 4) : Memref sig .tc .vmem S64x2048 .f32 :=
  (resBuf.slice (resRect l) (fun _ => rfl)).squeeze S64x2048 squeezes_S1x64x2048_S64x2048
abbrev stageSlot (l : Fin 4) : Memref sig .tc .vmem S64x2048 .f32 :=
  stageBuf.slice (Rect.unit (s := S256x2048) ![64 * l.val, 0] S64x2048.size (inb_stage l)) (fun _ => rfl)

/-! ## Rows, chunks and neighbours, in the words the program computes -/

/-- `n` steps against lane `l`'s direction, as a word: forward lanes subtract `n`, backward lanes `-n`. -/
def hopW (l : Fin 4) (n : ℕ) : BitVec 32 := if l.val < 2 then BitVec.ofNat 32 n else BitVec.ofNat 32 (4294967296 - n)
/-- Lane `l`'s first row within a chunk. -/
def rowW (l : Fin 4) : BitVec 32 := BitVec.ofNat 32 (64 * l.val)

/-- The neighbour lane `l` sends to. -/
def peer (l : Fin 4) (d : Dev nD) : Dev nD := if l.val < 2 then ⟨k0_dev2 d, k0_dev2_lt d⟩ else ⟨k0_dev1 d, k0_dev1_lt d⟩

/-- The rows sent at a hop lie in the result. -/
theorem inb_row3 : ∀ (d : Dev nD) (l : Fin 4) (n : Fin 8), ∀ a, (k0_off3 d (hopW l n.val) 16#32 (rowW l)) a + S64x2048.size a ≤ S2048x2048.size a := by
  decide +kernel
/-- The rows written at a hop lie in the result. -/
theorem inb_row5 : ∀ (d : Dev nD) (l : Fin 4) (n : Fin 8), ∀ a, (k0_off5 d (hopW l n.val) 16#32 (rowW l)) a + S64x2048.size a ≤ S2048x2048.size a := by
  decide +kernel
/-- The rows staged at a hop lie in the partial result. -/
theorem inb_row4 : ∀ (d : Dev nD) (l : Fin 4) (n : Fin 8), ∀ a, (k0_off4 d (hopW l n.val) (rowW l)) a + S1x64x2048.size a ≤ S1x2048x2048.size a := by
  decide +kernel

/-- The first row of the rows lane `l` of device `d` reduces and normalises itself. -/
def ownA (d : Dev nD) (l : Fin 4) : Fin 2 → Nat := if l.val < 2 then k0_off2 d (rowW l) else k0_off3 d 1#32 8#32 (rowW l)
def ownB (d : Dev nD) (l : Fin 4) : Fin 2 → Nat := if l.val < 2 then k0_off6 d (rowW l) else k0_off5 d 1#32 8#32 (rowW l)
/-- The rows of the residual that a lane copies lie in it. -/
theorem inb_ownA : ∀ (d : Dev nD) (l : Fin 4), ∀ a, (ownA d l) a + S64x2048.size a ≤ S2048x2048.size a := by decide +kernel
/-- The rows that a lane normalises lie in the result. -/
theorem inb_ownB : ∀ (d : Dev nD) (l : Fin 4), ∀ a, (ownB d l) a + S64x2048.size a ≤ S2048x2048.size a := by decide +kernel

/-- The output rows lane `l` sends after having received hop `n - 1`. -/
abbrev outSrc (d : Dev nD) (l : Fin 4) (n : Fin 8) : Memref sig .tc .vmem S64x2048 .f32 :=
  outBuf.slice (Rect.unit (s := S2048x2048) (k0_off3 d (hopW l n.val) 16#32 (rowW l)) S64x2048.size (inb_row3 d l n)) (fun _ => rfl)
abbrev outRect (d : Dev nD) (l : Fin 4) (n : Fin 8) : Rect S2048x2048 :=
  Rect.unit (s := S2048x2048) (k0_off5 d (hopW l n.val) 16#32 (rowW l)) S64x2048.size (inb_row5 d l n)
abbrev outOwn (d : Dev nD) (l : Fin 4) : Memref sig .tc .vmem S64x2048 .f32 :=
  outBuf.slice (Rect.unit (s := S2048x2048) (ownA d l) S64x2048.size (inb_ownA d l)) (fun _ => rfl)
abbrev outOwnRect (d : Dev nD) (l : Fin 4) : Rect S2048x2048 := Rect.unit (s := S2048x2048) (ownB d l) S64x2048.size (inb_ownB d l)
abbrev rsdOwn (d : Dev nD) (l : Fin 4) : Memref sig .tc .hbm S64x2048 .f32 :=
  rsdBuf.slice (Rect.unit (s := S2048x2048) (ownA d l) S64x2048.size (inb_ownA d l)) (fun _ => rfl)
abbrev parSrc (d : Dev nD) (l : Fin 4) (n : Fin 8) : Memref sig .tc .hbm S64x2048 .f32 :=
  (parBuf.slice (Rect.unit (s := S1x2048x2048) (k0_off4 d (hopW l n.val) (rowW l)) S1x64x2048.size (inb_row4 d l n)) (fun _ => rfl)).squeeze
    S64x2048 squeezes_S1x64x2048_S64x2048
abbrev parMine (d : Dev nD) : Memref sig .tc .hbm S256x2048 .f32 :=
  (parBuf.slice (Rect.unit (s := S1x2048x2048) (k0_off1 d) S1x256x2048.size (k0_off1_inb d)) (fun _ => rfl)).squeeze
    S256x2048 squeezes_S1x256x2048_S256x2048

abbrev barSem : Sem sig := (SemArray.scalar (sig.barrier 0 rfl) : Sems sig S_).sem
abbrev endSem : Sem sig := cc0_scoped0.sem
abbrev mineCell : DmaSem sig := cc0_scratch9.sem

/-! ## The operations -/

/-- Start the copy of a lane's next partial chunk into its staging slot. -/
def stageStart (d : Dev nD) (l : Fin 4) (n : Fin 8) (b : Fin 2) (k : Bd F) : Bd F :=
  .op (.enqueueDma (parSrc d l n) (.here (accSlot l b)) (.dma (accCell l b)) ((View.wordExact_bits rfl).reshape _ _)
    ((View.wordExact_bits rfl).reshape _ _) ⟨Or.inl rfl, trivial⟩) fun _ => k

/-- Start the copy of the residual's own rows. -/
def resStart (d : Dev nD) (l : Fin 4) (k : Bd F) : Bd F :=
  .op (.enqueueDma (rsdOwn d l) (.here (resSlot l)) (.dma (resCell l)) (View.wordExact_bits rfl)
    ((View.wordExact_bits rfl).reshape _ _) ⟨Or.inl rfl, trivial⟩) fun _ => k

abbrev rsSendC (l : Fin 4) (s : Fin 7) : DmaSem sig := cellAt cc0_scratch5 l s
abbrev rsRecvC (l : Fin 4) (s : Fin 7) : DmaSem sig := cellAt cc0_scratch6 l s
abbrev agSendC (l : Fin 4) (s : Fin 7) : DmaSem sig := cellAt cc0_scratch7 l s
abbrev agRecvC (l : Fin 4) (s : Fin 7) : DmaSem sig := cellAt cc0_scratch8 l s

/-- Send the first reduce-scatter rows, from the staging copy of this device's own chunk. -/
def rsSend0 (d : Dev nD) (l : Fin 4) (k : Bd F) : Bd F :=
  .op (.enqueueDma (stageSlot l) (.remote (Dev.tc (peer l d)) (slotOf rsBuf l 0) (.dma (rsSendC l 0))) (.dma (rsRecvC l 0))
    (View.wordExact_bits rfl) ((View.wordExact_bits rfl).reshape _ _) ⟨⟨rfl, Or.inl rfl⟩, trivial⟩) fun _ => k

/-- Send the sum made at hop `s` on, to be received at hop `s + 1`. -/
def rsSend (d : Dev nD) (l : Fin 4) (s : Fin 6) (k : Bd F) : Bd F :=
  .op (.enqueueDma (outSrc d l s.succ.castSucc) (.remote (Dev.tc (peer l d)) (slotOf rsBuf l s.succ) (.dma (rsSendC l s.succ))) (.dma (rsRecvC l s.succ))
    (View.wordExact_bits rfl) ((View.wordExact_bits rfl).reshape _ _) ⟨⟨rfl, Or.inl rfl⟩, trivial⟩) fun _ => k

/-- Send the normalised own rows. -/
def agSend0 (d : Dev nD) (l : Fin 4) (k : Bd F) : Bd F :=
  .op (.enqueueDma (outOwn d l) (.remote (Dev.tc (peer l d)) (slotOf agBuf l 0) (.dma (agSendC l 0))) (.dma (agRecvC l 0))
    (View.wordExact_bits rfl) ((View.wordExact_bits rfl).reshape _ _) ⟨⟨rfl, Or.inl rfl⟩, trivial⟩) fun _ => k

/-- Pass on the rows received at all-gather hop `s`. -/
def agSend (d : Dev nD) (l : Fin 4) (s : Fin 6) (k : Bd F) : Bd F :=
  .op (.enqueueDma (slotOf agBuf l s.castSucc) (.remote (Dev.tc (peer l d)) (slotOf agBuf l s.succ) (.dma (agSendC l s.succ))) (.dma (agRecvC l s.succ))
    ((View.wordExact_bits rfl).reshape _ _) ((View.wordExact_bits rfl).reshape _ _) ⟨⟨rfl, Or.inl rfl⟩, trivial⟩) fun _ => k

/-- What hop `s` of the reduce-scatter reads its rows from, at the sender. -/
def rsRecvWait (d : Dev nD) (l : Fin 4) : Fin 7 → Bd F → Bd F
  | ⟨0, _⟩, k => .op (.waitDma2 (rsRecvC l 0) (stageSlot l) (slotOf rsBuf l 0) (View.wordExact_bits rfl) ((View.wordExact_bits rfl).reshape _ _)) fun _ => k
  | ⟨s + 1, h⟩, k => .op (.waitDma2 (rsRecvC l ⟨s + 1, h⟩) (outSrc d l ⟨s + 1, by omega⟩) (slotOf rsBuf l ⟨s + 1, h⟩)
      (View.wordExact_bits rfl) ((View.wordExact_bits rfl).reshape _ _)) fun _ => k

def rsSendWait (d : Dev nD) (l : Fin 4) : Fin 7 → Bd F → Bd F
  | ⟨0, _⟩, k => .op (.waitDma2 (rsSendC l 0) (slotOf rsBuf l 0) (stageSlot l) ((View.wordExact_bits rfl).reshape _ _) (View.wordExact_bits rfl)) fun _ => k
  | ⟨s + 1, h⟩, k => .op (.waitDma2 (rsSendC l ⟨s + 1, h⟩) (slotOf rsBuf l ⟨s + 1, h⟩) (outSrc d l ⟨s + 1, by omega⟩)
      ((View.wordExact_bits rfl).reshape _ _) (View.wordExact_bits rfl)) fun _ => k

def agRecvWait (d : Dev nD) (l : Fin 4) : Fin 7 → Bd F → Bd F
  | ⟨0, _⟩, k => .op (.waitDma2 (agRecvC l 0) (outOwn d l) (slotOf agBuf l 0) (View.wordExact_bits rfl) ((View.wordExact_bits rfl).reshape _ _)) fun _ => k
  | ⟨s + 1, h⟩, k => .op (.waitDma2 (agRecvC l ⟨s + 1, h⟩) (slotOf agBuf l ⟨s, by omega⟩) (slotOf agBuf l ⟨s + 1, h⟩)
      ((View.wordExact_bits rfl).reshape _ _) ((View.wordExact_bits rfl).reshape _ _)) fun _ => k

def agSendWait (d : Dev nD) (l : Fin 4) : Fin 7 → Bd F → Bd F
  | ⟨0, _⟩, k => .op (.waitDma2 (agSendC l 0) (slotOf agBuf l 0) (outOwn d l) ((View.wordExact_bits rfl).reshape _ _) (View.wordExact_bits rfl)) fun _ => k
  | ⟨s + 1, h⟩, k => .op (.waitDma2 (agSendC l ⟨s + 1, h⟩) (slotOf agBuf l ⟨s + 1, h⟩) (slotOf agBuf l ⟨s, by omega⟩)
      ((View.wordExact_bits rfl).reshape _ _) ((View.wordExact_bits rfl).reshape _ _)) fun _ => k

def stageWait (d : Dev nD) (l : Fin 4) (n : Fin 8) (b : Fin 2) (k : Bd F) : Bd F :=
  .op (.waitDma2 (accCell l b) (parSrc d l n) (accSlot l b) ((View.wordExact_bits rfl).reshape _ _) ((View.wordExact_bits rfl).reshape _ _)) fun _ => k

def resWait (d : Dev nD) (l : Fin 4) (k : Bd F) : Bd F :=
  .op (.waitDma2 (resCell l) (rsdOwn d l) (resSlot l) (View.wordExact_bits rfl) ((View.wordExact_bits rfl).reshape _ _)) fun _ => k

abbrev ld4 (A : Memref sig .tc .vmem S4x7x64x2048 .f32) (l : Fin 4) (s : Fin 7) (k : Vec F S1x1x64x2048 .f32 → Bd F) : Bd F :=
  .op (.load A (slotRect l s).toLoadRect (View.loadsAt_vmem h_S1x1x64x2048)) k
abbrev ldOut (R : Fin 2 → Nat) (h : ∀ a, R a + S64x2048.size a ≤ S2048x2048.size a) (k : Vec F S64x2048 .f32 → Bd F) : Bd F :=
  .op (.load outBuf (Rect.unit (s := S2048x2048) R S64x2048.size h).toLoadRect (View.loadsAt_vmem h_S64x2048)) k
abbrev stOut (R : Fin 2 → Nat) (h : ∀ a, R a + S64x2048.size a ≤ S2048x2048.size a) (v : FVec F S64x2048 .f32) (k : Bd F) : Bd F :=
  .op (.store outBuf (Rect.unit (s := S2048x2048) R S64x2048.size h) v Finset.univ (View.stores_vmem_bits_univ h_S64x2048 rfl) (.inl rfl)) fun _ => k

/-- The sum of hop `s`: the received rows and the device's own rows of that chunk, into the output. -/
def addRows (d : Dev nD) (l : Fin 4) (s : Fin 7) (b : Fin 2) (k : Bd F) : Bd F :=
  ld4 rsBuf l s fun x =>
  .op (.load accBuf (accRect l b).toLoadRect (View.loadsAt_vmem h_S1x1x64x2048)) fun y =>
  ldOut (k0_off5 d (hopW l s.succ.val) 16#32 (rowW l)) (inb_row5 d l s.succ) fun _ =>
  stOut (k0_off5 d (hopW l s.succ.val) 16#32 (rowW l)) (inb_row5 d l s.succ) (k0_pay1 x y) k

/-- One lane's normalisation of its own rows. -/
def normRows (d : Dev nD) (l : Fin 4) (k : Bd F) : Bd F :=
  ldOut (ownB d l) (inb_ownB d l) fun a =>
  .op (.load resBuf (resRect l).toLoadRect (View.loadsAt_vmem h_S1x64x2048)) fun r =>
  .op (.load gamBuf (Rect.unit (s := S2048) ![0] S2048.size inb_gam).toLoadRect (View.loadsAt_vmem h_S2048)) fun g =>
  ldOut (ownB d l) (inb_ownB d l) fun _ =>
  stOut (ownB d l) (inb_ownB d l) (k0_pay34 a r g) k

/-- The rows landed at all-gather hop `s`, into the output. -/
def copyRows (d : Dev nD) (l : Fin 4) (s : Fin 7) (k : Bd F) : Bd F :=
  ld4 agBuf l s fun x =>
  ldOut (k0_off5 d (hopW l s.val) 16#32 (rowW l)) (inb_row5 d l s.castSucc) fun _ =>
  stOut (k0_off5 d (hopW l s.val) 16#32 (rowW l)) (inb_row5 d l s.castSucc) (k0_pay37 x) k

abbrev parity (s : ℕ) : Fin 2 := ⟨s % 2, Nat.mod_lt _ (by decide)⟩

/-- A lane's part of hop `s`. -/
def rsBody (d : Dev nD) (l : Fin 4) (s : Fin 7) (k : Bd F) : Bd F :=
  rsRecvWait d l s (stageWait d l s.succ (parity s.val) (addRows d l s (parity s.val) k))

/-- The four lanes in turn. -/
def lanes (f : Fin 4 → Bd F → Bd F) (k : Bd F) : Bd F := f ⟨0, by decide⟩ (f ⟨1, by decide⟩ (f ⟨2, by decide⟩ (f ⟨3, by decide⟩ k)))
/-- The seven hops in turn. -/
def hops7 (f : Fin 7 → Bd F → Bd F) (k : Bd F) : Bd F :=
  f ⟨0, by decide⟩ (f ⟨1, by decide⟩ (f ⟨2, by decide⟩ (f ⟨3, by decide⟩ (f ⟨4, by decide⟩ (f ⟨5, by decide⟩ (f ⟨6, by decide⟩ k))))))
def hops6 (f : Fin 6 → Bd F → Bd F) (k : Bd F) : Bd F :=
  f ⟨0, by decide⟩ (f ⟨1, by decide⟩ (f ⟨2, by decide⟩ (f ⟨3, by decide⟩ (f ⟨4, by decide⟩ (f ⟨5, by decide⟩ k)))))

/-- A reduce-scatter hop but the last: the next staging copies, then each lane receives, adds and sends on. -/
def rsHop (d : Dev nD) (s : Fin 6) (k : Bd F) : Bd F :=
  lanes (fun l => stageStart d l s.succ.succ (parity (s.val + 1)))
    (lanes (fun l k => rsBody d l s.castSucc (rsSend d l s k)) k)

/-- An all-gather hop but the last. -/
def agHop (d : Dev nD) (s : Fin 6) (k : Bd F) : Bd F :=
  lanes (fun l k => agRecvWait d l s.castSucc (agSend d l s (copyRows d l s.castSucc k))) k

/-- A signal of one to each neighbour, and the wait for both neighbours'. -/
def meet (d : Dev nD) (sm : Sem sig) (k : Bd F) : Bd F :=
  .op (.semSignal (Dev.tc (⟨k0_dev1 d, k0_dev1_lt d⟩ : Dev nD)) sm (1#32 : BitVec 32).toInt) fun _ =>
  .op (.semSignal (Dev.tc (⟨k0_dev2 d, k0_dev2_lt d⟩ : Dev nD)) sm (1#32 : BitVec 32).toInt) fun _ =>
  .op (.semWait sm (2#32 : BitVec 32).toInt) fun _ => k

def mineStart (d : Dev nD) (k : Bd F) : Bd F :=
  .op (.enqueueDma (parMine d) (.here stageBuf) (.dma mineCell) ((View.wordExact_bits rfl).reshape _ _) (Memref.isWhole_whole _).wordExact ⟨Or.inl rfl, trivial⟩) fun _ => k
def mineWait (d : Dev nD) (k : Bd F) : Bd F :=
  .op (.waitDma2 mineCell (parMine d) stageBuf ((View.wordExact_bits rfl).reshape _ _) (Memref.isWhole_whole _).wordExact) fun _ => k

/-- The part of the program up to the end of the reduce-scatter. -/
def reducePart (d : Dev nD) (k : Bd F) : Bd F :=
  mineStart d <| lanes (resStart d) <| lanes (fun l => stageStart d l 1 0) <| meet d barSem <| mineWait d <| lanes (rsSend0 d) <|
  hops6 (rsHop d) <| lanes (fun l => rsBody d l ⟨6, by decide⟩) <| lanes (fun l => hops7 (rsSendWait d l)) k

/-- The rest. -/
def gatherPart (d : Dev nD) (k : Bd F) : Bd F :=
  lanes (fun l k => resWait d l (normRows d l (agSend0 d l k))) <| hops6 (agHop d) <|
  lanes (fun l k => agRecvWait d l ⟨6, by decide⟩ (copyRows d l ⟨6, by decide⟩ k)) <| lanes (fun l => hops7 (agSendWait d l)) <| meet d endSem k

/-- The whole body. -/
def prog : Bd F := .op .deviceId fun d => reducePart d (gatherPart d (.ret ⟨⟩))

set_option maxRecDepth 100000 in
/-- The printed body is the composition of the named steps. -/
theorem body_eq : cc0_body (F := F) parBuf (Memref.isWhole_whole _) rsdBuf (Memref.isWhole_whole _) gamBuf (Memref.isWhole_whole _) outBuf (Memref.isWhole_whole _)
    rsBuf (Memref.isWhole_whole _) agBuf (Memref.isWhole_whole _) stageBuf (Memref.isWhole_whole _) accBuf (Memref.isWhole_whole _) resBuf (Memref.isWhole_whole _)
    cc0_scratch5 cc0_scratch6 cc0_scratch7 cc0_scratch8 cc0_scratch9 cc0_scratch10 cc0_scratch11 cc0_scoped0 = prog := rfl

end Cert.KernelIdeal.RingProof

end
-- ==== Proof.RingCells.lean ====
/-
# The protocol of the ring all-reduce: cells, contents, schedule, debts

Every device has one barrier cell, one closing cell, four tables of transfer cells (reduce-scatter and all-gather,
sending and receiving; one cell per lane and hop) and the cells of its own local copies.  Lanes 0 and 1 go round the ring
one way, lanes 2 and 3 the other.

* Barrier: a device signals each neighbour one unit and waits for two.  With the unit it hands the neighbour the landing
  slots of the lanes that neighbour sends it on.
* A receive cell hands its device the landing slot, holding what was sent.
* A send cell hands its device the rows it sent from.
* A staging cell hands back the staging slot, filled, and the share of the input it was filled from.
* Closing exchange: one unit from each neighbour, nothing with it.

A device waits in the order: barrier, reduce-scatter hops in turn, all-gather hops in turn, closing exchange; at each wait it
owes only units of later stages, which is the level order.
-/
module

public import proofs.«01_k».proof.Proof.RingProgram
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The neighbour lane `l` receives from. -/
def frm (l : Fin 4) (d : Dev nD) : Dev nD := if l.val < 2 then ⟨k0_dev1 d, k0_dev1_lt d⟩ else ⟨k0_dev2 d, k0_dev2_lt d⟩
/-- The device to the left and the device to the right. -/
abbrev lft (d : Dev nD) : Dev nD := ⟨k0_dev1 d, k0_dev1_lt d⟩
abbrev rgt (d : Dev nD) : Dev nD := ⟨k0_dev2 d, k0_dev2_lt d⟩

/-- The neighbour that lane `l` sends to receives from the sender. -/
theorem frm_peer : ∀ (l : Fin 4) (d : Dev nD), frm l (peer l d) = d := by decide +kernel
/-- The neighbour that lane `l` receives from sends to the receiver. -/
theorem peer_frm : ∀ (l : Fin 4) (d : Dev nD), peer l (frm l d) = d := by decide +kernel
/-- Left of the right neighbour is the device. -/
theorem lft_rgt : ∀ (d : Dev nD), lft (rgt d) = d := by decide +kernel
/-- Right of the left neighbour is the device. -/
theorem rgt_lft : ∀ (d : Dev nD), rgt (lft d) = d := by decide +kernel
/-- The first two lanes send to the right. -/
theorem peer_lo : ∀ (l : Fin 4) (d : Dev nD), l.val < 2 → peer l d = rgt d := by decide +kernel
/-- The last two lanes send to the left. -/
theorem peer_hi : ∀ (l : Fin 4) (d : Dev nD), ¬ l.val < 2 → peer l d = lft d := by decide +kernel

/-- Lane `l`'s ring, as a permutation of the devices. -/
def ringOf (l : Fin 4) : Dev nD ≃ Dev nD := ⟨peer l, frm l, frm_peer l, peer_frm l⟩

/-! ## Kinds of cells -/

/-- The four tables of transfer cells. -/
inductive Tb where
  | rsS | rsR | agS | agR
  deriving DecidableEq

/-- The kinds of cells a device has. -/
inductive Kd where
  | rem (t : Tb) (l : Fin 4) (s : Fin 7)
  | acc (l : Fin 4) (b : Fin 2)
  | res (l : Fin 4)
  | mine
  | fin
  | bar
  deriving DecidableEq

/-- The cell of a kind. -/
def semOf : Kd → SemLoc sig
  | .rem .rsS l s => .dma (rsSendC l s)
  | .rem .rsR l s => .dma (rsRecvC l s)
  | .rem .agS l s => .dma (agSendC l s)
  | .rem .agR l s => .dma (agRecvC l s)
  | .acc l b => .dma (accCell l b)
  | .res l => .dma (resCell l)
  | .mine => .dma mineCell
  | .fin => .reg endSem
  | .bar => .reg barSem

def tbOf : ℕ → Tb
  | 0 => .rsS
  | 1 => .rsR
  | 2 => .agS
  | _ => .agR

/-- The kind of a cell (cells of no kind of the kernel's own read as `mine`). -/
def dec : SemLoc sig → Kd
  | .reg s => if s.val = 0 then .bar else .fin
  | .dma q =>
    if q.val < 2 then .mine
    else if q.val < 114 then .rem (tbOf ((q.val - 2) / 28)) ⟨(q.val - 2) % 28 / 7 % 4, Nat.mod_lt _ (by decide)⟩ ⟨(q.val - 2) % 7, Nat.mod_lt _ (by decide)⟩
    else if q.val = 114 then .mine
    else if q.val < 123 then .acc ⟨(q.val - 115) / 2 % 4, Nat.mod_lt _ (by decide)⟩ ⟨(q.val - 115) % 2, Nat.mod_lt _ (by decide)⟩
    else .res ⟨(q.val - 123) % 4, Nat.mod_lt _ (by decide)⟩

/-- The kind of a kind's cell is the kind. -/
theorem dec_semOf : ∀ k : Kd, dec (semOf k) = k := by
  rintro (⟨⟨⟩, l, s⟩ | ⟨l, b⟩ | l | _ | _ | _)
  · revert l s; decide +kernel
  · revert l s; decide +kernel
  · revert l s; decide +kernel
  · revert l s; decide +kernel
  · revert l b; decide +kernel
  · revert l; decide +kernel
  all_goals decide +kernel

/-- Different kinds have different cells. -/
theorem semOf_injective : Function.Injective semOf := fun a b h => by rw [← dec_semOf a, ← dec_semOf b, h]

/-- The cell of a kind on a device. -/
abbrev cellK (c : Dev nD) (k : Kd) : GSem nD τ sig := ((c : Thread nD τ), semOf k)

/-! ## Contents -/

variable (m : (ℓ : Loc nD τ sig) → Buf (Elt F) ℓ)

abbrev parOf (c : Dev nD) : Buf (Elt F) ((c : Thread nD τ).loc main_arg0) := m ((c : Thread nD τ).loc main_arg0)
abbrev rsdOf (c : Dev nD) : Buf (Elt F) ((c : Thread nD τ).loc main_arg1) := m ((c : Thread nD τ).loc main_arg1)
/-- What the gain's staging buffer holds. -/
def gamOf (c : Dev nD) : (cc0_stg0_0 : Ref sig .tc).ty.Contents (Elt F) :=
  (win0_0.blk (0 : Fin 1)).view.read (Elt F) (m ((c : Thread nD τ).loc main_arg2))

def h8 (n : ℕ) : Fin 8 := ⟨n % 8, Nat.mod_lt _ (by decide)⟩
/-- The hop after hop `s`. -/
theorem h8_succ : ∀ s : Fin 7, h8 (s.val + 1) = s.succ := by decide

/-- The rows of device `c`'s own partial result that lane `l` adds `n` hops along. -/
def Bl (c : Dev nD) (l : Fin 4) (n : Fin 8) : FVec F S64x2048 .f32 := (parSrc c l n).view.read (Elt F) (parOf m c)
/-- Device `c`'s own chunk of its partial result. -/
def mineVal (c : Dev nD) : FVec F S256x2048 .f32 := (parMine c).view.read (Elt F) (parOf m c)

/-- The rows lane `l` of device `c` sends at hop `s`: at first its own rows, then what it received and its own rows of that
    chunk added to it. -/
def Sm (l : Fin 4) : ℕ → Dev nD → FVec F S64x2048 .f32
  | 0, c => (stageSlot l).view.read (Elt F) (mineVal m c)
  | s + 1, c => addf (Sm l s (frm l c)) (Bl m c l (h8 (s + 1)))

/-- The residual's rows that belong to the chunk lane `l` of device `c` finishes. -/
def rsv (c : Dev nD) (l : Fin 4) : FVec F S64x2048 .f32 := (rsdOwn c l).view.read (Elt F) (rsdOf m c)

/-- The normalisation: the rows with the residual's rows added, each row divided by the root of its mean square (a small
    constant added) and multiplied by the gain. -/
def normF (a r : FVec F S64x2048 .f32) (g : FVec F S2048 .f32) : FVec F S64x2048 .f32 :=
  let y := addf (shapeCast S64x2048 a shapeCasts_S64x2048_S64x2048) r
  mulf (divf y (broadcastTo S64x2048
      (sqrt (addf (divf (shapeCast S64x1 (multiReduction .add [1] S64 (mulf y y) 0x00000000#32 reduces_S64x2048_S64 (.inl rfl) rfl) shapeCasts_S64_S64x1)
        (broadcast S64x1 (Scalar.ofBits .f32 0x45000000#32))) (broadcast S64x1 (Scalar.ofBits .f32 0x358637BD#32)))) broadcasts_S64x1_S64x2048))
    (broadcastTo S64x2048 (shapeCast S1x2048 (shapeCast S2048 g shapeCasts_S2048_S2048) shapeCasts_S2048_S1x2048) broadcasts_S1x2048_S64x2048)

/-- What the kernel computes at the normalisation is `normF` of the rows, the residual's rows and the gain. -/
theorem pay34_eq (a : Vec F S64x2048 .f32) (r : Vec F S1x64x2048 .f32) (g : Vec F S2048 .f32) :
    k0_pay34 a r g = normF a (shapeCast S64x2048 r shapeCasts_S1x64x2048_S64x2048) g := rfl

/-- The finished rows of lane `l`, made on device `c`. -/
def Zv (l : Fin 4) (c : Dev nD) : FVec F S64x2048 .f32 := normF (Sm m l 7 c) (rsv m c l) (gamOf m c)

/-- The rows lane `l` of device `c` sends at hop `t` of the all-gather. -/
def Av (l : Fin 4) : ℕ → Dev nD → FVec F S64x2048 .f32
  | 0, c => Zv m l c
  | t + 1, c => Av l t (frm l c)

/-! ## Holding -/

/-- Device `c` holds the memref's elements, at some contents. -/
def some' (c : Dev nD) {sp : Space} {s : Shape} (M : Memref sig .tc sp s .f32) : sProp 𝕄 := iprop(∃ X, owns (c : Thread nD τ) M fullShare X)

instance some'_storable (c : Dev nD) {sp : Space} {s : Shape} (M : Memref sig .tc sp s .f32) : BI.Storable (upEmb : UEmb _ 𝕄) (some' (F := F) c M) := by
  unfold some'; infer_instance

/-- The share of the partial result lent to a staging cell; to the copy of the own chunk; of the residual to a lane. -/
def qA (l : Fin 4) (b : Fin 2) : PosShare TreeShare := leaf 4 fullShare ⟨2 * l.val + b.val, by have := l.isLt; have := b.isLt; omega⟩
def qM : PosShare TreeShare := leaf 4 fullShare ⟨8, by decide⟩
def qR (l : Fin 4) : PosShare TreeShare := leaf 2 fullShare l

/-- The landing slots lane `l` of device `c` sends into. -/
def land (l : Fin 4) (c : Dev nD) : sProp 𝕄 :=
  bigSep Finset.univ fun s : Fin 7 => iprop(some' (peer l c) (slotOf rsBuf l s) ∗ some' (peer l c) (slotOf agBuf l s))

instance land_storable (l : Fin 4) (c : Dev nD) : BI.Storable (upEmb : UEmb _ 𝕄) (land (F := F) l c) := by unfold land; infer_instance

/-- The rows sent at hop `s` of the reduce-scatter, at the sender. -/
def rsOut (c : Dev nD) (l : Fin 4) : Fin 7 → sProp 𝕄
  | ⟨0, _⟩ => owns (c : Thread nD τ) (stageSlot l) fullShare (Sm m l 0 c)
  | ⟨s + 1, h⟩ => owns (c : Thread nD τ) (outSrc c l ⟨s + 1, by omega⟩) fullShare (Sm m l (s + 1) c)

/-- The rows sent at hop `s` of the all-gather, at the sender. -/
def agOut (c : Dev nD) (l : Fin 4) : Fin 7 → sProp 𝕄
  | ⟨0, _⟩ => owns (c : Thread nD τ) (outOwn c l) fullShare (Av m l 0 c)
  | ⟨s + 1, h⟩ => owns (c : Thread nD τ) (slotOf agBuf l ⟨s, by omega⟩) fullShare.right (Av m l (s + 1) c)

/-- The input's elements a copy reads, at the share lent to it. -/
def lent (c : Dev nD) {sp : Space} {s : Shape} (M : Memref sig .tc sp s .f32) (q : PosShare TreeShare) (f : Buf (Elt F) (M.view.loc (c : Thread nD τ))) : sProp 𝕄 :=
  M.view.loc (c : Thread nD τ) ↦[M.view.set]{q} f

instance lent_storable (c : Dev nD) {sp : Space} {s : Shape} (M : Memref sig .tc sp s .f32) (q f) : BI.Storable (upEmb : UEmb _ 𝕄) (lent (F := F) c M q f) := by
  unfold lent; infer_instance

instance rsOut_storable (c : Dev nD) (l : Fin 4) (s : Fin 7) : BI.Storable (upEmb : UEmb _ 𝕄) (rsOut m c l s) := by
  obtain ⟨_ | s, h⟩ := s <;> (unfold rsOut; infer_instance)
instance agOut_storable (c : Dev nD) (l : Fin 4) (s : Fin 7) : BI.Storable (upEmb : UEmb _ 𝕄) (agOut m c l s) := by
  obtain ⟨_ | s, h⟩ := s <;> (unfold agOut; infer_instance)

/-- What a cell hands its device in round `r`, duty `d`. -/
def payK (c : Dev nD) : Kd → ℕ → Bool → sProp 𝕄
  | .bar, _, true => iprop(land 0 c ∗ land 1 c)
  | .bar, _, false => iprop(land 2 c ∗ land 3 c)
  | .fin, _, _ => iprop(emp)
  | .rem .rsS l s, _, _ => rsOut m c l s
  | .rem .rsR l s, _, _ => owns (c : Thread nD τ) (slotOf rsBuf l s) fullShare (Sm m l s.val (frm l c))
  | .rem .agS l s, _, _ => agOut m c l s
  | .rem .agR l s, _, _ => owns (c : Thread nD τ) (slotOf agBuf l s) fullShare (Av m l s.val (frm l c))
  | .acc l b, r, _ => iprop(owns (c : Thread nD τ) (accSlot l b) fullShare (Bl m c l (h8 (2 * r + b.val + 1))) ∗ lent c (parSrc c l (h8 (2 * r + b.val + 1))) (qA l b) (parOf m c))
  | .res l, _, _ => iprop(owns (c : Thread nD τ) (resSlot l) fullShare (rsv m c l) ∗ lent c (rsdOwn c l) (qR l) (rsdOf m c))
  | .mine, _, _ => iprop(owns (c : Thread nD τ) stageBuf fullShare (mineVal m c) ∗ lent c (parMine c) qM (parOf m c))

instance payK_storable (c : Dev nD) (k : Kd) (r : ℕ) (d : Bool) : BI.Storable (upEmb : UEmb _ 𝕄) (payK m c k r d) := by
  rcases k with ⟨⟨⟩, l, s⟩ | ⟨l, b⟩ | l | _ | _ | _ <;> cases d <;> unfold payK <;> infer_instance

/-- One row block's transfer, and the own chunk's, in the units of the cells. -/
abbrev N : ℕ := (slotOf rsBuf 0 0).view.dmaCredit
abbrev N4 : ℕ := stageBuf.view.dmaCredit
/-- A block of rows counts for something. -/
theorem N_pos : 0 < N := View.dmaCredit_pos _ (by decide)
/-- The own chunk counts for something. -/
theorem N4_pos : 0 < N4 := View.dmaCredit_pos _ (by decide)

def amtK : Kd → ℕ
  | .bar => 1
  | .fin => 1
  | .mine => N4
  | _ => N
def dutK : Kd → ℕ → Finset Bool
  | .bar, r => if r = 0 then Finset.univ else ∅
  | .fin, r => if r = 0 then Finset.univ else ∅
  | .acc l b, r => if 2 * r + b.val < 7 then {false} else ∅
  | _, r => if r = 0 then {false} else ∅

/-- The schedule. -/
def Rd : Rounds.Schedule (GSem nD τ sig) Bool 𝕄 where
  duties g r := dutK (dec g.2) r
  unitless _ := False
  amount g _ _ := amtK (dec g.2)
  payload g r d := payK m g.1.1 (dec g.2) r d
  amount_pos g _ _ _ := by
    cases dec g.2 <;> first | exact Nat.one_pos | exact N_pos | exact N4_pos

instance Rd_payload_storable (g : GSem nD τ sig) (r : ℕ) (d : Bool) : BI.Storable (upEmb : UEmb _ 𝕄) ((Rd (F := F) m).payload g r d) :=
  payK_storable m g.1.1 (dec g.2) r d

/-- The schedule's duties at a kind's cell. -/
theorem duties_eq (c : Dev nD) (k : Kd) (r : ℕ) : (Rd (F := F) m).duties (cellK c k) r = dutK k r := by
  show dutK (dec (semOf k)) r = _; rw [dec_semOf]
/-- The schedule's amounts at a kind's cell. -/
theorem amount_eq (c : Dev nD) (k : Kd) (r : ℕ) (d : Bool) : (Rd (F := F) m).amount (cellK c k) r d = amtK k := by
  show amtK (dec (semOf k)) = _; rw [dec_semOf]
/-- The schedule's payloads at a kind's cell. -/
theorem payload_eq (c : Dev nD) (k : Kd) (r : ℕ) (d : Bool) : (Rd (F := F) m).payload (cellK c k) r d = payK m c k r d := by
  show payK m c (dec (semOf k)) r d = _; rw [dec_semOf]
/-- A round brings as many amounts as it has duties. -/
theorem expect_eq (c : Dev nD) (k : Kd) (r : ℕ) : (Rd (F := F) m).expect (cellK c k) r = (dutK k r).card * amtK k := by
  unfold Schedule.expect Schedule.amountOf
  rw [Finset.sum_congr rfl fun d _ => amount_eq m c k r d, duties_eq, Finset.sum_const, smul_eq_mul]
/-- A round of one duty brings one amount. -/
theorem expect_one (c : Dev nD) (k : Kd) (r : ℕ) (h : dutK k r = {false}) : (Rd (F := F) m).expect (cellK c k) r = amtK k := by
  rw [expect_eq, h, Finset.card_singleton, one_mul]
/-- A round of one duty hands over that duty's payload. -/
theorem rest_one (c : Dev nD) (k : Kd) (r : ℕ) (h : dutK k r = {false}) :
    bigSep ((Rd (F := F) m).duties (cellK c k) r \ ∅) (fun d => (Rd (F := F) m).payload (cellK c k) r d) = payK m c k r false := by
  rw [Finset.sdiff_empty, duties_eq, h, bigSep_singleton, payload_eq]
/-- A round of two duties hands over both payloads. -/
theorem rest_two (c : Dev nD) (k : Kd) (r : ℕ) (h : dutK k r = Finset.univ) :
    bigSep ((Rd (F := F) m).duties (cellK c k) r \ ∅) (fun d => (Rd (F := F) m).payload (cellK c k) r d) = iprop(payK m c k r false ∗ payK m c k r true) := by
  rw [Finset.sdiff_empty, duties_eq, h, bigSep_univ_eq_bigSepL [false, true] (by decide) (by decide), bigSepL_cons_cons, bigSepL_singleton, payload_eq, payload_eq]
  rfl

/-! ## Debts and levels -/

/-- The debt a device pays as its last but `i`: its kind and the direction (`true`: to the right). -/
def debtKd (i : ℕ) : Kd :=
  if i < 2 then .fin
  else if i < 30 then .rem .agR ⟨(29 - i) % 4, Nat.mod_lt _ (by decide)⟩ ⟨(29 - i) / 4 % 7, Nat.mod_lt _ (by decide)⟩
  else if i < 58 then .rem .rsR ⟨(57 - i) % 4, Nat.mod_lt _ (by decide)⟩ ⟨(57 - i) / 4 % 7, Nat.mod_lt _ (by decide)⟩
  else .bar
def debtR (i : ℕ) : Bool :=
  if i < 2 then i = 0 else if i < 30 then (29 - i) % 4 < 2 else if i < 58 then (57 - i) % 4 < 2 else i = 58
def debtTo (c : Dev nD) (i : ℕ) : Dev nD := if debtR i then rgt c else lft c

/-- What device `c` owes when `k` payments are still to be made. -/
def owe (c : Dev nD) : ℕ → CellTallies nD τ sig Unit
  | 0 => 0
  | k + 1 => owe c k + tallyAt (cellK (debtTo c k) (debtKd k)) () (amtK (debtKd k))

/-- What is owed with one payment more to make. -/
theorem owe_succ (c : Dev nD) (k : ℕ) : owe c (k + 1) = owe c k + tallyAt (cellK (debtTo c k) (debtKd k)) () (amtK (debtKd k)) := rfl

/-- How many payments remain after the send of lane `l`, hop `s`. -/
abbrev leftRs (l : Fin 4) (s : Fin 7) : ℕ := 57 - (4 * s.val + l.val)
abbrev leftAg (l : Fin 4) (s : Fin 7) : ℕ := 29 - (4 * s.val + l.val)

/-- The debt that a send of the reduce-scatter pays is the neighbour's receive cell's. -/
theorem debt_rs : ∀ (l : Fin 4) (s : Fin 7), debtKd (leftRs l s) = .rem .rsR l s := by decide
/-- The debt that a send of the all-gather pays is the neighbour's receive cell's. -/
theorem debt_ag : ∀ (l : Fin 4) (s : Fin 7), debtKd (leftAg l s) = .rem .agR l s := by decide
/-- The side to which a send of the reduce-scatter pays. -/
theorem debtR_rs : ∀ (l : Fin 4) (s : Fin 7), debtR (leftRs l s) = decide (l.val < 2) := by decide
/-- The side to which a send of the all-gather pays. -/
theorem debtR_ag : ∀ (l : Fin 4) (s : Fin 7), debtR (leftAg l s) = decide (l.val < 2) := by decide
/-- A send of the reduce-scatter pays the neighbour that the lane sends to. -/
theorem debtTo_rs (c : Dev nD) (l : Fin 4) (s : Fin 7) : debtTo c (leftRs l s) = peer l c := by
  unfold debtTo; rw [debtR_rs]; by_cases h : l.val < 2
  · rw [peer_lo l c h]; simp [h]
  · rw [peer_hi l c h]; simp [h]
/-- A send of the all-gather pays the neighbour that the lane sends to. -/
theorem debtTo_ag (c : Dev nD) (l : Fin 4) (s : Fin 7) : debtTo c (leftAg l s) = peer l c := by
  unfold debtTo; rw [debtR_ag]; by_cases h : l.val < 2
  · rw [peer_lo l c h]; simp [h]
  · rw [peer_hi l c h]; simp [h]
/-- What is owed before a send of the reduce-scatter, and after. -/
theorem owe_rs (c : Dev nD) (l : Fin 4) (s : Fin 7) :
    owe c (leftRs l s + 1) = owe c (leftRs l s) + tallyAt (cellK (peer l c) (.rem .rsR l s)) () N := by
  rw [owe_succ, debt_rs, debtTo_rs]; rfl
/-- What is owed before a send of the all-gather, and after. -/
theorem owe_ag (c : Dev nD) (l : Fin 4) (s : Fin 7) :
    owe c (leftAg l s + 1) = owe c (leftAg l s) + tallyAt (cellK (peer l c) (.rem .agR l s)) () N := by
  rw [owe_succ, debt_ag, debtTo_ag]; rfl

/-- The level of a cell's waits. -/
def lvK : Kd → ℕ
  | .bar => 1
  | .rem .rsR _ s => 2 + s.val
  | .rem .agR _ s => 9 + s.val
  | .fin => 16
  | _ => 0

def L (g : GSem nD τ sig) : Finset Unit := if g.1.2 = .tc then {()} else ∅
def lv (g : GSem nD τ sig) (_ : Unit) : ℕ := lvK (dec g.2)

/-- Only the cells of tensor cores are levelled. -/
theorem L_of_ne (g : GSem nD τ sig) (h : g.1.2 ≠ .tc) : L g = ∅ := if_neg h
/-- The cells of tensor cores are levelled. -/
theorem L_tc (c : Dev nD) (sm : SemLoc sig) : L ((c : Thread nD τ), sm) = {()} := if_pos rfl

/-- What is owed is one of the debts still to pay. -/
theorem owe_pos {c : Dev nD} {g : GSem nD τ sig} {u : Unit} : ∀ {k : ℕ}, 0 < owe c k g u → ∃ i, i < k ∧ g = cellK (debtTo c i) (debtKd i)
  | 0, h => absurd h (Nat.lt_irrefl 0)
  | k + 1, h => by
    rw [owe_succ, Pi.add_apply, Finsupp.add_apply, tallyAt_apply] at h
    by_cases hk : g = cellK (debtTo c k) (debtKd k) ∧ u = ()
    · exact ⟨k, Nat.lt_succ_self k, hk.1⟩
    · rw [if_neg hk, Nat.add_zero] at h
      obtain ⟨i, hi, he⟩ := owe_pos h
      exact ⟨i, Nat.lt_succ_of_lt hi, he⟩

/-- At a wait on a cell of level below everything still owed, the wait is allowed. -/
theorem mayWait (c : Dev nD) (sm : SemLoc sig) (k : ℕ) (h : ∀ i < k, lvK (dec sm) < lvK (debtKd i)) :
    (levAts L lv : sProp 𝕄) ⊢ MayWait (c : Thread nD τ) sm () (owe c k) :=
  MayOwe.of_cut (L := L) (lev := lv) (lvK (dec sm)) (fun p hp => by rw [Finset.mem_singleton.mp hp, L_tc]; exact Finset.mem_singleton_self _)
    (fun g u hg => by obtain ⟨i, _, rfl⟩ := owe_pos hg; rw [L_tc]; exact Finset.mem_singleton_self _)
    (fun p hp => by rw [Finset.mem_singleton.mp hp]; exact Nat.le_refl _)
    (fun g u hg => by
      obtain ⟨i, hi, rfl⟩ := owe_pos hg
      show lvK (dec sm) < lvK (dec (semOf (debtKd i)))
      rw [dec_semOf]; exact h i hi)

/-- Every debt is above the waits for local copies and sends. -/
theorem level_local : ∀ i < 60, 0 < lvK (debtKd i) := by decide
/-- All debts but the entry barrier's are above the wait at the entry barrier. -/
theorem level_bar : ∀ i < 58, 1 < lvK (debtKd i) := by decide
/-- What is still owed at a wait of the reduce-scatter is above it. -/
theorem level_rs : ∀ (l : Fin 4) (s : Fin 7), ∀ i < 54 - (4 * s.val + l.val), 2 + s.val < lvK (debtKd i) := by decide +kernel
/-- What is still owed at the last waits of the reduce-scatter is above them. -/
theorem level_rs6 : ∀ i < 30, 8 < lvK (debtKd i) := by decide
/-- What is still owed at the last waits of the all-gather is above them. -/
theorem level_ag6 : ∀ i < 2, 15 < lvK (debtKd i) := by decide
/-- What is still owed at a wait of the all-gather is above it. -/
theorem level_ag : ∀ (l : Fin 4) (s : Fin 7), ∀ i < 26 - (4 * s.val + l.val), 9 + s.val < lvK (debtKd i) := by decide +kernel

end Cert.KernelIdeal.RingProof

end
-- ==== Proof.RingSteps.lean ====
/-
# One operation at a time

`Step κ c pre post f`: from the standing facts (every cell's invariant, every cell at its first round, the levels) and
`pre`, the piece of program `f` runs on device `c` and leaves `post`.  Steps compose in sequence, in lanes and in hops; this
module has the composition rules and one step for each operation of the ring.
-/
module

public import proofs.«01_k».proof.Proof.RingCells

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The kinds, counted -/

/-- The kinds of the kernel's own cells, as a sum. -/
abbrev Own : Type := ((Fin 4 × Fin 7) ⊕ (Fin 4 × Fin 7)) ⊕ ((Fin 4 × Fin 7) ⊕ (Fin 4 × Fin 7)) ⊕ (Fin 4 × Fin 2) ⊕ Fin 4 ⊕ Unit ⊕ Unit
def ofOwn : Own → Kd
  | .inl (.inl p) => .rem .rsS p.1 p.2
  | .inl (.inr p) => .rem .rsR p.1 p.2
  | .inr (.inl (.inl p)) => .rem .agS p.1 p.2
  | .inr (.inl (.inr p)) => .rem .agR p.1 p.2
  | .inr (.inr (.inl p)) => .acc p.1 p.2
  | .inr (.inr (.inr (.inl l))) => .res l
  | .inr (.inr (.inr (.inr (.inl _)))) => .mine
  | .inr (.inr (.inr (.inr (.inr _)))) => .fin
def toOwn : Kd → Own ⊕ Unit
  | .rem .rsS l s => .inl (.inl (.inl (l, s)))
  | .rem .rsR l s => .inl (.inl (.inr (l, s)))
  | .rem .agS l s => .inl (.inr (.inl (.inl (l, s))))
  | .rem .agR l s => .inl (.inr (.inl (.inr (l, s))))
  | .acc l b => .inl (.inr (.inr (.inl (l, b))))
  | .res l => .inl (.inr (.inr (.inr (.inl l))))
  | .mine => .inl (.inr (.inr (.inr (.inr (.inl ())))))
  | .fin => .inl (.inr (.inr (.inr (.inr (.inr ())))))
  | .bar => .inr ()
/-- The kinds are the own ones and the barrier. -/
def kdEquiv : Own ⊕ Unit ≃ Kd where
  toFun x := Sum.elim ofOwn (fun _ => .bar) x
  invFun := toOwn
  left_inv := by rintro ((((⟨l, s⟩ | ⟨l, s⟩) | (⟨l, s⟩ | ⟨l, s⟩) | ⟨l, b⟩ | l | _ | _)) | _) <;> rfl
  right_inv := by rintro (⟨⟨⟩, l, s⟩ | ⟨l, b⟩ | l | _ | _ | _) <;> rfl
instance : Fintype Kd := Fintype.ofEquiv _ kdEquiv

/-- Different own cells have different kinds. -/
theorem ofOwn_injective : Function.Injective ofOwn := fun a b h => by
  have := kdEquiv.injective (a₁ := .inl a) (a₂ := .inl b) h; exact Sum.inl.inj this

/-- A conjunction over the kernel's own cells, by table. -/
theorem bigSep_own (f : Own → sProp 𝕄) :
    bigSep Finset.univ f = iprop(((bigSep Finset.univ fun l => bigSep Finset.univ fun s => f (.inl (.inl (l, s)))) ∗ (bigSep Finset.univ fun l => bigSep Finset.univ fun s => f (.inl (.inr (l, s)))))
      ∗ ((bigSep Finset.univ fun l => bigSep Finset.univ fun s => f (.inr (.inl (.inl (l, s))))) ∗ (bigSep Finset.univ fun l => bigSep Finset.univ fun s => f (.inr (.inl (.inr (l, s))))))
      ∗ (bigSep Finset.univ fun l => bigSep Finset.univ fun b => f (.inr (.inr (.inl (l, b)))))
      ∗ (bigSep Finset.univ fun l => f (.inr (.inr (.inr (.inl l)))))
      ∗ f (.inr (.inr (.inr (.inr (.inl ()))))) ∗ f (.inr (.inr (.inr (.inr (.inr ())))))) := by
  rw [bigSep_univ_sum, bigSep_univ_sum, bigSep_univ_sum, bigSep_univ_sum, bigSep_univ_sum, bigSep_univ_sum, bigSep_univ_sum, bigSep_univ_prod, bigSep_univ_prod, bigSep_univ_prod, bigSep_univ_prod, bigSep_univ_prod,
    bigSep_univ_of_subsingleton (), bigSep_univ_of_subsingleton ()]
  rfl

/-- A conjunction over all kinds is one over the own kinds and the barrier's part. -/
theorem bigSep_kd (f : Kd → sProp 𝕄) : bigSep Finset.univ f = iprop((bigSep Finset.univ fun o => f (ofOwn o)) ∗ f .bar) := by
  rw [bigSep_univ_equiv kdEquiv f, bigSep_univ_sum, bigSep_univ_of_subsingleton ()]; rfl

variable (m : (ℓ : Loc nD τ sig) → Buf (Elt F) ℓ)

/-! ## The standing facts and steps -/

/-- Every cell's invariant, every cell at its first round, the levels. -/
def records (κ : Dev nD × Kd → ℕ) : sProp 𝕄 :=
  iprop((bigSep Finset.univ fun p : Dev nD × Kd => cellInv ER (Rd m) (κ p) (cellK p.1 p.2))
    ∗ (bigSep Finset.univ fun p : Dev nD × Kd => reached ER (cellK p.1 p.2) 0) ∗ levAts L lv)

instance records_persistent (κ : Dev nD × Kd → ℕ) : BI.Persistent (records m κ) := by unfold records; infer_instance

/-- The records hold every cell's invariant. -/
theorem records_inv (κ : Dev nD × Kd → ℕ) (c : Dev nD) (k : Kd) : records m κ ⊢ cellInv ER (Rd m) (κ (c, k)) (cellK c k) := by
  have h : (bigSep Finset.univ fun p : Dev nD × Kd => cellInv ER (Rd m) (κ p) (cellK p.1 p.2) : sProp 𝕄) ⊢ cellInv ER (Rd m) (κ (c, k)) (cellK c k) := bigSep_elim (Finset.mem_univ (c, k))
  unfold records; iintro ⟨H, -⟩; iapply h; iexact H
/-- The records say that every cell is in its first round or later. -/
theorem records_reached (κ : Dev nD × Kd → ℕ) (c : Dev nD) (k : Kd) : records m κ ⊢ reached ER (cellK c k) 0 := by
  have h : (bigSep Finset.univ fun p : Dev nD × Kd => (reached ER (cellK p.1 p.2) 0 : sProp 𝕄) : sProp 𝕄) ⊢ reached ER (cellK c k) 0 := bigSep_elim (Finset.mem_univ (c, k))
  unfold records; iintro ⟨-, H, -⟩; iapply h; iexact H
/-- The records hold the levels. -/
theorem records_lev (κ : Dev nD × Kd → ℕ) : records m κ ⊢ levAts L lv := by
  unfold records; iintro ⟨-, -, H⟩; iexact H

/-- A device's run of a program. -/
abbrev WP (c : Dev nD) (k : Bd F) (Q : PUnit → sProp 𝕄) : sProp 𝕄 :=
  wp frame (wpE (defs₀ (F := F)) 𝒱₀ (c : Thread nD τ) none) Set.univ k Q

/-- The piece of program `f` on device `c`, from `pre` to `post`. -/
def Step (κ : Dev nD × Kd → ℕ) (c : Dev nD) (pre post : sProp 𝕄) (f : Bd F → Bd F) : Prop :=
  ∀ (k : Bd F) (Q : PUnit → sProp 𝕄), iprop(records m κ ∗ pre) ⊢ iprop((post -∗ WP c k Q) -∗ WP c (f k) Q)

variable {m} {κ : Dev nD × Kd → ℕ} {c : Dev nD}

/-- One step after another. -/
theorem Step.seq {P Q R : sProp 𝕄} {f g : Bd F → Bd F} (h₁ : Step m κ c P Q f) (h₂ : Step m κ c Q R g) : Step m κ c P R (fun k => f (g k)) := fun k Φ => by
  iintro ⟨#HR, HP⟩ Hk
  iapply (h₁ (g k) Φ) $$ [HP]
  · isplitr; · iexact HR
    iexact HP
  iintro HQ
  iapply (h₂ k Φ) $$ [HQ]
  · isplitr; · iexact HR
    iexact HQ
  iexact Hk

/-- A step from more to less. -/
theorem Step.conseq {P P' Q Q' : sProp 𝕄} {f : Bd F → Bd F} (h : Step m κ c P Q f) (hP : P' ⊢ P) (hQ : Q ⊢ Q') : Step m κ c P' Q' f := fun k Φ => by
  iintro ⟨#HR, HP⟩ Hk
  iapply (h k Φ) $$ [HP]
  · isplitr; · iexact HR
    iapply hP; iexact HP
  iintro HQ
  iapply Hk; iapply hQ; iexact HQ

/-- A step beside what it does not touch. -/
theorem Step.frame {P Q : sProp 𝕄} {f : Bd F → Bd F} (h : Step m κ c P Q f) (R : sProp 𝕄) : Step m κ c iprop(P ∗ R) iprop(Q ∗ R) f := fun k Φ => by
  iintro ⟨#HR, HP, HF⟩ Hk
  iapply (h k Φ) $$ [HP]
  · isplitr; · iexact HR
    iexact HP
  iintro HQ
  iapply Hk
  isplitl [HQ]; · iexact HQ
  iexact HF

/-- The same with the frame worked out by rearrangement on both sides. -/
theorem Step.framed {P Q P' Q' : sProp 𝕄} {f : Bd F → Bd F} (h : Step m κ c P Q f) (R : sProp 𝕄) (hP : P' ⊢ iprop(P ∗ R)) (hQ : iprop(Q ∗ R) ⊢ Q') :
    Step m κ c P' Q' f := (h.frame R).conseq hP hQ

/-- Four resources, written out. -/
theorem bigSep_fin4 (f : Fin 4 → sProp 𝕄) : bigSep Finset.univ f = iprop(f 0 ∗ f 1 ∗ f 2 ∗ f 3) := by
  rw [bigSep_univ_eq_bigSepL [0, 1, 2, 3] (by decide) (by decide)]; rfl
/-- Six resources, written out. -/
theorem bigSep_fin6 (f : Fin 6 → sProp 𝕄) : bigSep Finset.univ f = iprop(f 0 ∗ f 1 ∗ f 2 ∗ f 3 ∗ f 4 ∗ f 5) := by
  rw [bigSep_univ_eq_bigSepL [0, 1, 2, 3, 4, 5] (by decide) (by decide)]; rfl
/-- Seven resources, written out. -/
theorem bigSep_fin7 (f : Fin 7 → sProp 𝕄) : bigSep Finset.univ f = iprop(f 0 ∗ f 1 ∗ f 2 ∗ f 3 ∗ f 4 ∗ f 5 ∗ f 6) := by
  rw [bigSep_univ_eq_bigSepL [0, 1, 2, 3, 4, 5, 6] (by decide) (by decide)]; rfl

/-- One of a chain: what was done stays, the next is made from what is to do. -/
theorem Step.next {A B I I' D T : sProp 𝕄} {f : Bd F → Bd F} (h : Step m κ c iprop(A ∗ I) iprop(B ∗ I') f) :
    Step m κ c iprop(D ∗ (A ∗ T) ∗ I) iprop((D ∗ B) ∗ T ∗ I') f :=
  h.framed iprop(D ∗ T)
    (by iintro ⟨HD, ⟨HA, HT⟩, HI⟩; isplitl [HA HI]; · isplitl [HA] <;> iassumption
        isplitl [HD] <;> iassumption)
    (by iintro ⟨⟨HB, HI⟩, HD, HT⟩; isplitl [HD HB]; · isplitl [HD] <;> iassumption
        isplitl [HT] <;> iassumption)

/-- Steps of the four lanes, one after the other, `I` handed along. -/
theorem Step.lanes {A B : Fin 4 → sProp 𝕄} {I : ℕ → sProp 𝕄} {f : Fin 4 → Bd F → Bd F}
    (h : ∀ l : Fin 4, Step m κ c iprop(A l ∗ I l.val) iprop(B l ∗ I (l.val + 1)) (f l)) :
    Step m κ c iprop(bigSep Finset.univ A ∗ I 0) iprop(bigSep Finset.univ B ∗ I 4) (RingProof.lanes f) := by
  have h0 : Step m κ c iprop(A 0 ∗ I 0) iprop(B 0 ∗ I 1) (f 0) := h 0
  have h1 : Step m κ c iprop(A 1 ∗ I 1) iprop(B 1 ∗ I 2) (f 1) := h 1
  have h2 : Step m κ c iprop(A 2 ∗ I 2) iprop(B 2 ∗ I 3) (f 2) := h 2
  have h3 : Step m κ c iprop(A 3 ∗ I 3) iprop(B 3 ∗ I 4) (f 3) := h 3
  exact (((h0.next (D := iprop(emp)) (T := iprop(A 1 ∗ A 2 ∗ A 3))).seq (h1.next (T := iprop(A 2 ∗ A 3)))).seq (h2.next (T := A 3))).seq (h3.next (T := iprop(emp))
      |>.conseq (by iintro ⟨HD, HT, HI⟩; isplitl [HD]; · iexact HD
                    isplitl [HT]; · isplitl [HT]; · iexact HT
                                    iempintro
                    iexact HI) .rfl) |>.conseq
    (by rw [bigSep_fin4]; iintro ⟨H, HI⟩; isplitr; · iempintro
        isplitl [H] <;> iassumption)
    (by rw [bigSep_fin4]; iintro ⟨⟨⟨⟨⟨-, H0⟩, H1⟩, H2⟩, H3⟩, -, HI⟩
        isplitr [HI]
        · isplitl [H0]; · iexact H0
          isplitl [H1]; · iexact H1
          isplitl [H2] <;> iassumption
        · iexact HI)

/-- Steps of six hops. -/
theorem Step.hops6 {A B : Fin 6 → sProp 𝕄} {I : ℕ → sProp 𝕄} {f : Fin 6 → Bd F → Bd F}
    (h : ∀ s : Fin 6, Step m κ c iprop(A s ∗ I s.val) iprop(B s ∗ I (s.val + 1)) (f s)) :
    Step m κ c iprop(bigSep Finset.univ A ∗ I 0) iprop(bigSep Finset.univ B ∗ I 6) (RingProof.hops6 f) := by
  have h0 : Step m κ c iprop(A 0 ∗ I 0) iprop(B 0 ∗ I 1) (f 0) := h 0
  have h1 : Step m κ c iprop(A 1 ∗ I 1) iprop(B 1 ∗ I 2) (f 1) := h 1
  have h2 : Step m κ c iprop(A 2 ∗ I 2) iprop(B 2 ∗ I 3) (f 2) := h 2
  have h3 : Step m κ c iprop(A 3 ∗ I 3) iprop(B 3 ∗ I 4) (f 3) := h 3
  have h4 : Step m κ c iprop(A 4 ∗ I 4) iprop(B 4 ∗ I 5) (f 4) := h 4
  have h5 : Step m κ c iprop(A 5 ∗ I 5) iprop(B 5 ∗ I 6) (f 5) := h 5
  exact (((((h0.next (D := iprop(emp)) (T := iprop(A 1 ∗ A 2 ∗ A 3 ∗ A 4 ∗ A 5))).seq (h1.next (T := iprop(A 2 ∗ A 3 ∗ A 4 ∗ A 5)))).seq (h2.next (T := iprop(A 3 ∗ A 4 ∗ A 5)))).seq
      (h3.next (T := iprop(A 4 ∗ A 5)))).seq (h4.next (T := A 5))).seq (h5.next (T := iprop(emp))
      |>.conseq (by iintro ⟨HD, HT, HI⟩; isplitl [HD]; · iexact HD
                    isplitl [HT]; · isplitl [HT]; · iexact HT
                                    iempintro
                    iexact HI) .rfl) |>.conseq
    (by rw [bigSep_fin6]; iintro ⟨H, HI⟩; isplitr; · iempintro
        isplitl [H] <;> iassumption)
    (by rw [bigSep_fin6]; iintro ⟨⟨⟨⟨⟨⟨⟨-, H0⟩, H1⟩, H2⟩, H3⟩, H4⟩, H5⟩, -, HI⟩
        isplitr [HI]
        · isplitl [H0]; · iexact H0
          isplitl [H1]; · iexact H1
          isplitl [H2]; · iexact H2
          isplitl [H3]; · iexact H3
          isplitl [H4] <;> iassumption
        · iexact HI)

/-- Steps of seven hops. -/
theorem Step.hops7 {A B : Fin 7 → sProp 𝕄} {I : ℕ → sProp 𝕄} {f : Fin 7 → Bd F → Bd F}
    (h : ∀ s : Fin 7, Step m κ c iprop(A s ∗ I s.val) iprop(B s ∗ I (s.val + 1)) (f s)) :
    Step m κ c iprop(bigSep Finset.univ A ∗ I 0) iprop(bigSep Finset.univ B ∗ I 7) (RingProof.hops7 f) := by
  have h0 : Step m κ c iprop(A 0 ∗ I 0) iprop(B 0 ∗ I 1) (f 0) := h 0
  have h1 : Step m κ c iprop(A 1 ∗ I 1) iprop(B 1 ∗ I 2) (f 1) := h 1
  have h2 : Step m κ c iprop(A 2 ∗ I 2) iprop(B 2 ∗ I 3) (f 2) := h 2
  have h3 : Step m κ c iprop(A 3 ∗ I 3) iprop(B 3 ∗ I 4) (f 3) := h 3
  have h4 : Step m κ c iprop(A 4 ∗ I 4) iprop(B 4 ∗ I 5) (f 4) := h 4
  have h5 : Step m κ c iprop(A 5 ∗ I 5) iprop(B 5 ∗ I 6) (f 5) := h 5
  have h6 : Step m κ c iprop(A 6 ∗ I 6) iprop(B 6 ∗ I 7) (f 6) := h 6
  exact ((((((h0.next (D := iprop(emp)) (T := iprop(A 1 ∗ A 2 ∗ A 3 ∗ A 4 ∗ A 5 ∗ A 6))).seq (h1.next (T := iprop(A 2 ∗ A 3 ∗ A 4 ∗ A 5 ∗ A 6)))).seq (h2.next (T := iprop(A 3 ∗ A 4 ∗ A 5 ∗ A 6)))).seq
      (h3.next (T := iprop(A 4 ∗ A 5 ∗ A 6)))).seq (h4.next (T := iprop(A 5 ∗ A 6)))).seq (h5.next (T := A 6))).seq (h6.next (T := iprop(emp))
      |>.conseq (by iintro ⟨HD, HT, HI⟩; isplitl [HD]; · iexact HD
                    isplitl [HT]; · isplitl [HT]; · iexact HT
                                    iempintro
                    iexact HI) .rfl) |>.conseq
    (by rw [bigSep_fin7]; iintro ⟨H, HI⟩; isplitr; · iempintro
        isplitl [H] <;> iassumption)
    (by rw [bigSep_fin7]; iintro ⟨⟨⟨⟨⟨⟨⟨⟨-, H0⟩, H1⟩, H2⟩, H3⟩, H4⟩, H5⟩, H6⟩, -, HI⟩
        isplitr [HI]
        · isplitl [H0]; · iexact H0
          isplitl [H1]; · iexact H1
          isplitl [H2]; · iexact H2
          isplitl [H3]; · iexact H3
          isplitl [H4]; · iexact H4
          isplitl [H5] <;> iassumption
        · iexact HI)

/-! ## Debts, waits -/

/-- The device owes its last `n` payments. -/
def Ow (c : Dev nD) (n : ℕ) : sProp 𝕄 := iprop(∃ W, owes (c : Thread nD τ) (owe c n) W)

/-- A wait on a cell of the device's own for a whole round of one duty. -/
theorem step_wait (k : Kd) (r n : ℕ) (hd : dutK k r = {false}) (hlev : ∀ i < n, lvK k < lvK (debtKd i))
    (sem : DmaSem sig) (hs : semOf k = .dma sem) {sp sp' : Space} {s s' : Shape} {e e' : EltTy} (src : Memref sig .tc sp' s' e') (dst : Memref sig .tc sp s e)
    (hsrc : src.view.WordExact) (hdst : dst.view.WordExact) (hN : dst.view.dmaCredit = amtK k) :
    Step m κ c iprop(cred (tallyAt (cellK c k) () (amtK k)) ∗ atPos ER (cellK c k) r ∅ 0 ∗ Ow c n)
      iprop((atPos ER (cellK c k) (r + 1) ∅ 0 ∗ reached ER (cellK c k) (r + 1) ∗ payK m c k r false) ∗ Ow c n)
      (fun K => .op (.waitDma2 sem src dst hsrc hdst) fun _ => K) := fun K Φ => by
  have hi := records_inv m κ c k
  have hex : (Rd (F := F) m).expect (cellK c k) r = amtK k := expect_one m c k r hd
  have hrest := rest_one (F := F) m c k r hd
  have hmw := (records_lev m κ).trans (mayWait (F := F) c (semOf k) n (by rw [dec_semOf]; exact hlev))
  unfold cellK at *
  rw [hs] at *
  unfold Ow
  iintro ⟨#HR, Hc, Ha, ⟨%W, HO⟩⟩ Hk
  iapply (Rounds.wp_wait_rest_token 𝒱₀ ER (Rd m) (c : Thread nD τ) none (κ := κ (c, k))
      (wpE_waitDma2_eq 𝒱₀ (c : Thread nD τ) none Set.univ) (Set.mem_univ _) () (O := owe c n) (W := W) (R := r) (m := 0) (T := ∅)
      (by rw [Nat.zero_add, hex, hN])) $$ [Hc HO Ha]
  · isplitr; · iapply hi; iexact HR
    isplitl [Hc]; · rw [hN]; iexact Hc
    isplitl [HO]; · iexact HO
    isplitr; · iapply hmw; iexact HR
    iexact Ha
  iintro ⟨HO, Ha, Hr, Hp⟩
  iapply Hk
  isplitr [HO]
  · isplitl [Ha]; · iexact Ha
    isplitl [Hr]; · iexact Hr
    iapply (Entails.of_eq hrest); iexact Hp
  · iexists _; iexact HO

/-- The same on a cell whose last round this is: its counter is back, at zero. -/
theorem step_wait_close (k : Kd) (r n : ℕ) (hd : dutK k r = {false}) (hlast : ∀ r' ≥ r + 1, dutK k r' = ∅) (hlev : ∀ i < n, lvK k < lvK (debtKd i))
    (sem : DmaSem sig) (hs : semOf k = .dma sem) {sp sp' : Space} {s s' : Shape} {e e' : EltTy} (src : Memref sig .tc sp' s' e') (dst : Memref sig .tc sp s e)
    (hsrc : src.view.WordExact) (hdst : dst.view.WordExact) (hN : dst.view.dmaCredit = amtK k) :
    Step m κ c iprop((cred (tallyAt (cellK c k) () (amtK k)) ∗ atPos ER (cellK c k) r ∅ 0) ∗ Ow c n)
      iprop((semVal (cellK c k) 0 ∗ payK m c k r false) ∗ Ow c n)
      (fun K => .op (.waitDma2 sem src dst hsrc hdst) fun _ => K) := fun K Φ => by
  iintro ⟨#HR, ⟨Hc, Ha⟩, HO⟩ Hk
  iapply (step_wait k r n hd hlev sem hs src dst hsrc hdst hN K Φ) $$ [Hc Ha HO]
  · isplitr; · iexact HR
    isplitl [Hc]; · iexact Hc
    isplitl [Ha] <;> iassumption
  iintro ⟨⟨Ha, -, Hp⟩, HO⟩
  imod (Rounds.cell_close ER (Rd m) (Set.mem_univ (κ (c, k))) (fun h => h) (R := r + 1) (g := cellK c k)
    (fun r' h => (duties_eq m c k r').trans (hlast r' h))) $$ [Ha] with Hz
  · isplitr; · iapply (records_inv m κ c k); iexact HR
    iexact Ha
  iapply Hk
  isplitr [HO]
  · isplitl [Hz] <;> iassumption
  · iexact HO

/-! ## Copies -/

/-- Holding the memref at some contents, by its elements. -/
theorem some'_elim (c : Dev nD) {sp : Space} {s : Shape} (M : Memref sig .tc sp s .f32) :
    (some' c M : sProp 𝕄) ⊢ iprop(∃ f : Buf (Elt F) (M.view.loc (c : Thread nD τ)), M.view.loc (c : Thread nD τ) ↦[M.view.set]{fullShare} f) := by
  unfold some' owns; iintro ⟨%X, %f, -, H⟩; iexists f; iexact H
/-- A piece held at known contents is held at some contents. -/
theorem some'_of (c : Dev nD) {sp : Space} {s : Shape} (M : Memref sig .tc sp s .f32) (X : s.Idx → Elt F .f32) :
    (owns (c : Thread nD τ) M fullShare X : sProp 𝕄) ⊢ some' c M := by
  unfold some'; iintro H; iexists X; iexact H

/-- After a whole write the memref reads what was written. -/
theorem owns_written (c : Dev nD) {sp : Space} {s : Shape} (M : Memref sig .tc sp s .f32) (f : Buf (Elt F) (M.view.loc (c : Thread nD τ))) (X : s.Idx → Elt F .f32) :
    (M.view.loc (c : Thread nD τ) ↦[M.view.set]{fullShare} (M.view.write (Elt F) f X Finset.univ) : sProp 𝕄) ⊢ owns (c : Thread nD τ) M fullShare X := by
  refine (owns_intro (c : Thread nD τ) M fullShare _).trans ?_
  rw [View.read_write_univ]

/-- A copy within the device, from a share of an input, paid to a cell of the device's own. -/
theorem step_copy (k : Kd) (r : ℕ) (hd : false ∈ dutK k r) (sem : DmaSem sig) (hs : semOf k = .dma sem)
    {sp sp' : Space} {s : Shape} (src : Memref sig .tc sp s .f32) (dst : Memref sig .tc sp' s .f32) (hsrc : src.view.WordExact) (hdst : dst.view.WordExact)
    (hsem : DmaTarget.Typed (nD := nD) (p := (Dev.tc c : Thread nD τ).2) sp (.dma sem) (.here dst)) (q : PosShare TreeShare) (fs : Buf (Elt F) (src.view.loc (c : Thread nD τ)))
    (hN : dst.view.dmaCredit = amtK k)
    (hpay : payK m c k r false = iprop(owns (c : Thread nD τ) dst fullShare (src.view.read (Elt F) fs) ∗ lent c src q fs)) :
    Step m κ c iprop(some' c dst ∗ lent c src q fs ∗ dutyTok ER (cellK c k) r false ∗ reached ER (cellK c k) r)
      iprop(cred (tallyAt (cellK c k) () (amtK k)))
      (fun K => .op (.enqueueDma src (.here dst) (.dma sem) hsrc hdst hsem) fun _ => K) := fun K Φ => by
  have hi := records_inv m κ c k
  have hdut : false ∈ (Rd (F := F) m).duties (cellK c k) r := by rw [duties_eq]; exact hd
  have ham := amount_eq (F := F) m c k r false
  have hp := (payload_eq (F := F) m c k r false).trans hpay
  unfold cellK at *
  rw [hs] at *
  iintro ⟨#HR, Hd, Hs, Ht, #Hr⟩ Hk
  ihave ⟨%fd, Hd⟩ := (some'_elim c dst) $$ Hd
  iapply (Rounds.wp_copy_pointsTo 𝒱₀ ER (Rd m) (c : Thread nD τ) none (κ := κ (c, k)) (r := r) (d := false) (fd := fd) (fs := fs) (q := q)
      hdut () (amtK k) hN ham (by
        rw [hp]; unfold lent
        exact sep_mono_left (owns_written c dst fd _))) $$ [Hd Hs Ht]
  · isplitr; · iapply hi; iexact HR
    isplitl [Hs]; · unfold lent; iexact Hs
    isplitl [Hd]; · iexact Hd
    isplitl [Ht]; · iexact Ht
    iexact Hr
  iintro Hc
  iapply Hk; iexact Hc

/-- A transfer to the neighbour of lane `l`. -/
theorem step_send (l : Fin 4) (k k' : Kd) (n : ℕ) (hd : dutK k 0 = {false}) (hd' : dutK k' 0 = {false}) (sem sem' : DmaSem sig) (hs : semOf k = .dma sem) (hs' : semOf k' = .dma sem')
    {sp sp' : Space} {s : Shape} (src : Memref sig .tc sp s .f32) (dst : Memref sig .tc sp' s .f32) (hsrc : src.view.WordExact) (hdst : dst.view.WordExact)
    (hsc : dst.view.ref.isScScratch = false)
    (hsem : DmaTarget.Typed sp (.dma sem') (.remote (Dev.tc (peer l c) : Thread nD τ) dst (.dma sem) hsc)) (q : PosShare TreeShare) (X : s.Idx → Elt F .f32)
    (hN : dst.view.dmaCredit = N) (hk : amtK k = N) (hk' : amtK k' = N)
    (hO : owe c (n + 1) = owe c n + tallyAt (cellK (peer l c) k') () N)
    (hpay : payK m c k 0 false = owns (c : Thread nD τ) src q X)
    (hpay' : payK m (peer l c) k' 0 false = owns (peer l c : Thread nD τ) dst fullShare X) :
    Step m κ c iprop((owns (c : Thread nD τ) src q X ∗ some' (peer l c) dst ∗ dutyTok ER (cellK c k) 0 false ∗ dutyTok ER (cellK (peer l c) k') 0 false) ∗ Ow c (n + 1))
      iprop(cred (tallyAt (cellK c k) () (amtK k)) ∗ Ow c n)
      (fun K => .op (.enqueueDma src (.remote (Dev.tc (peer l c)) dst (.dma sem) hsc) (.dma sem') hsrc hdst hsem) fun _ => K) := fun K Φ => by
  have hi := records_inv m κ c k
  have hi' := records_inv m κ (peer l c) k'
  have hr := records_reached m κ c k
  have hr' := records_reached m κ (peer l c) k'
  have hdut : false ∈ (Rd (F := F) m).duties (cellK c k) 0 := by rw [duties_eq, hd]; exact Finset.mem_singleton_self _
  have hdut' : false ∈ (Rd (F := F) m).duties (cellK (peer l c) k') 0 := by rw [duties_eq, hd']; exact Finset.mem_singleton_self _
  have ham := (amount_eq (F := F) m c k 0 false).trans hk
  have ham' := (amount_eq (F := F) m (peer l c) k' 0 false).trans hk'
  have hp := (payload_eq (F := F) m c k 0 false).trans hpay
  have hp' := (payload_eq (F := F) m (peer l c) k' 0 false).trans hpay'
  rw [hk]
  unfold cellK at *
  rw [hs, hs'] at *
  iintro ⟨#HR, ⟨Hs, Hd, Ht, Ht'⟩, HO⟩ Hk
  unfold Ow
  icases HO with ⟨%W, HO⟩
  ihave ⟨%fd, Hd⟩ := (some'_elim (peer l c) dst) $$ Hd
  unfold owns
  icases Hs with ⟨%fs, %hfs, Hs⟩
  iapply (Rounds.wp_send_pointsTo 𝒱₀ ER (Rd m) (c : Thread nD τ) none (κ₁ := κ (c, k)) (κ₂ := κ (peer l c, k')) (r₁ := 0) (r₂ := 0) (d₁ := false) (d₂ := false) (fd := fd) (fs := fs) (q := q)
      hdut hdut' () () N hN ham ham' (owe c n) hO (W := W) (by rw [hp, ← hfs]; exact owns_intro (c : Thread nD τ) src q fs) (by
        rw [hp', hfs]; exact owns_written (peer l c) dst fd _)) $$ [Hd Hs HO Ht Ht']
  · isplitr; · iapply hi; iexact HR
    isplitr; · iapply hi'; iexact HR
    isplitl [Hs]; · iexact Hs
    isplitl [Hd]; · iexact Hd
    isplitl [HO]; · iexact HO
    isplitl [Ht]; · iexact Ht
    isplitr; · iapply hr; iexact HR
    isplitl [Ht']; · iexact Ht'
    iapply hr'; iexact HR
  iintro ⟨Hc, HO⟩
  iapply Hk
  isplitl [Hc]; · iexact Hc
  iexists W; iexact HO

end Cert.KernelIdeal.RingProof

end
-- ==== Proof.RingOps.lean ====
/-
# The ring's own steps

One step for each operation of the program at its lane and hop: the staging copies and their waits, the transfers and their
waits, the additions, the copies out of the landing slots, the normalisation, the exchanges of signals.
-/
module

public import proofs.«01_k».proof.Proof.RingSteps

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Dev nD × Kd → ℕ} {c : Dev nD}

/-! ## Rounds of each kind -/

/-- A remote copy's cell has one duty, in its first round. -/
theorem dut_rem (t : Tb) (l : Fin 4) (s : Fin 7) : dutK (.rem t l s) 0 = {false} := by cases t <;> rfl
/-- A remote copy's cell has no duty after its first round. -/
theorem dut_rem_later (t : Tb) (l : Fin 4) (s : Fin 7) : ∀ r' ≥ 0 + 1, dutK (.rem t l s) r' = ∅ := fun r' h => by
  cases t <;> exact if_neg (by omega)
/-- A staging cell has one duty in each of its rounds. -/
theorem dut_acc (l : Fin 4) (b : Fin 2) (r : ℕ) (h : 2 * r + b.val < 7) : dutK (.acc l b) r = {false} := if_pos h
/-- Waits on send cells have the lowest level. -/
theorem lev_rem_send (l : Fin 4) (s : Fin 7) : lvK (.rem .rsS l s) = 0 ∧ lvK (.rem .agS l s) = 0 := ⟨rfl, rfl⟩

/-! ## Equal offsets -/

/-- The offset at which the kernel writes a lane's rows is the one at which it sends them. -/
theorem off5_eq : ∀ (d : Dev nD) (l : Fin 4) (n : Fin 8), k0_off5 d (hopW l n.val) 16#32 (rowW l) = k0_off3 d (hopW l n.val) 16#32 (rowW l) := by
  decide +kernel
/-- The rows that a lane finishes are those it reaches at the last hop (as the residual's copy computes them). -/
theorem ownA_eq : ∀ (d : Dev nD) (l : Fin 4), ownA d l = k0_off3 d (hopW l 7) 16#32 (rowW l) := by decide +kernel
/-- The rows that a lane finishes are those it reaches at the last hop (as the normalisation computes them). -/
theorem ownB_eq : ∀ (d : Dev nD) (l : Fin 4), ownB d l = k0_off3 d (hopW l 7) 16#32 (rowW l) := by decide +kernel

/-- A block of 64 rows of the output, at an offset. -/
abbrev blk (R : Fin 2 → Nat) (h : ∀ a, R a + S64x2048.size a ≤ S2048x2048.size a) : Memref sig .tc .vmem S64x2048 .f32 :=
  outBuf.slice (Rect.unit (s := S2048x2048) R S64x2048.size h) (fun _ => rfl)

/-- Blocks at equal offsets are equal. -/
theorem blk_congr {R R' : Fin 2 → Nat} (e : R = R') (h h') : blk R h = blk R' h' := by subst e; rfl

/-- The rows that the all-gather sends first are those of the last hop. -/
theorem outOwn_eq (d : Dev nD) (l : Fin 4) : outOwn d l = outSrc d l 7 := blk_congr (ownA_eq d l) _ _
/-- The block written at a hop is the block sent at the hop. -/
theorem outRect_eq (d : Dev nD) (l : Fin 4) (n : Fin 8) : blk (k0_off5 d (hopW l n.val) 16#32 (rowW l)) (inb_row5 d l n) = outSrc d l n := blk_congr (off5_eq d l n) _ _
/-- The rows that the normalisation writes are those of the last hop. -/
theorem outOwnB_eq (d : Dev nD) (l : Fin 4) : blk (ownB d l) (inb_ownB d l) = outSrc d l 7 := blk_congr (ownB_eq d l) _ _

/-! ## Loads and stores -/

/-- The elements of a landing slot, as a part of the buffer. -/
theorem slot_set (A : Memref sig .tc .vmem S4x7x64x2048 .f32) (l : Fin 4) (s : Fin 7) : (slotOf A l s).view.set = A.view.setOn (slotRect l s).set := by
  show ((A.view.slice (slotRect l s)).reshape _ _).set = _
  rw [View.set_reshape, View.set_slice]; rfl

/-- The elements of a staging slot, as a part of the buffer. -/
theorem accSlot_set (l : Fin 4) (b : Fin 2) : (accSlot l b).view.set = accBuf.view.setOn (accRect l b).set := by
  show ((accBuf.view.slice (accRect l b)).reshape _ _).set = _
  rw [View.set_reshape, View.set_slice]; rfl
/-- The elements of a residual slot, as a part of the buffer. -/
theorem resSlot_set (l : Fin 4) : (resSlot l).view.set = resBuf.view.setOn (resRect l).set := by
  show ((resBuf.view.slice (resRect l)).reshape _ _).set = _
  rw [View.set_reshape, View.set_slice]; rfl

/-- A load of a landing slot reads the slot's contents. -/
theorem read_slot (A : Memref sig .tc .vmem S4x7x64x2048 .f32) (l : Fin 4) (s : Fin 7) (f : A.view.ty.Contents (Elt F)) :
    shapeCast S64x2048 (A.view.readAt (Elt F) (slotRect l s).toLoadRect f) shapeCasts_S1x1x64x2048_S64x2048 = (slotOf A l s).view.read (Elt F) f := rfl
/-- A load of a staging slot reads the slot's contents. -/
theorem read_accSlot (l : Fin 4) (b : Fin 2) (f : accBuf.view.ty.Contents (Elt F)) :
    shapeCast S64x2048 (accBuf.view.readAt (Elt F) (accRect l b).toLoadRect f) shapeCasts_S1x1x64x2048_S64x2048 = (accSlot l b).view.read (Elt F) f := rfl
/-- A load of a residual slot reads the slot's contents. -/
theorem read_resSlot (l : Fin 4) (f : resBuf.view.ty.Contents (Elt F)) :
    shapeCast S64x2048 (resBuf.view.readAt (Elt F) (resRect l).toLoadRect f) shapeCasts_S1x64x2048_S64x2048 = (resSlot l).view.read (Elt F) f := rfl

/-- Holding a piece at contents X is holding its elements at some buffer that reads X there. -/
theorem owns_elim (c : Dev nD) {sp : Space} {s : Shape} (M : Memref sig .tc sp s .f32) (q : PosShare TreeShare) (X : s.Idx → Elt F .f32) :
    (owns (c : Thread nD τ) M q X : sProp 𝕄) ⊢ iprop(∃ f : Buf (Elt F) (M.view.loc (c : Thread nD τ)), ⌜M.view.read (Elt F) f = X⌝ ∗ (M.view.loc (c : Thread nD τ) ↦[M.view.set]{q} f)) := .rfl
/-- Holding the elements at a buffer that reads X there is holding the piece at X. -/
theorem owns_back (c : Dev nD) {sp : Space} {s : Shape} (M : Memref sig .tc sp s .f32) (q : PosShare TreeShare) (X : s.Idx → Elt F .f32)
    (f : Buf (Elt F) (M.view.loc (c : Thread nD τ))) (h : M.view.read (Elt F) f = X) :
    (M.view.loc (c : Thread nD τ) ↦[M.view.set]{q} f : sProp 𝕄) ⊢ owns (c : Thread nD τ) M q X := by
  subst h; exact owns_intro (c : Thread nD τ) M q f

/-- A load of a slot held at any share. -/
theorem ld4_at (A : Memref sig .tc .vmem S4x7x64x2048 .f32) (l : Fin 4) (s : Fin 7) (q : PosShare TreeShare) (X : FVec F S64x2048 .f32)
    (k : Vec F S1x1x64x2048 .f32 → Bd F) (Q : PUnit → sProp 𝕄) :
    (owns (c : Thread nD τ) (slotOf A l s) q X : sProp 𝕄)
      ⊢ iprop((∀ x, ⌜shapeCast S64x2048 x shapeCasts_S1x1x64x2048_S64x2048 = X⌝ -∗ owns (c : Thread nD τ) (slotOf A l s) q X -∗ WP c (k x) Q) -∗ WP c (ld4 A l s k) Q) := by
  unfold owns
  iintro ⟨%f, %hf, H⟩ Hk
  iapply (wp_load 𝒱₀ (c : Thread nD τ) none Set.univ (m := A) (r := (slotRect l s).toLoadRect) (S := (slotOf A l s).view.set) (by rw [slot_set])) $$ H; iintro H
  iapply Hk
  · ipureintro; rw [← hf]; exact read_slot A l s f
  · iexists f; isplitr; · ipureintro; exact hf
    iexact H

/-- A load of 64 rows of the output that are held. -/
theorem ldOut_at (R : Fin 2 → Nat) (h : ∀ a, R a + S64x2048.size a ≤ S2048x2048.size a) (X : FVec F S64x2048 .f32)
    (k : Vec F S64x2048 .f32 → Bd F) (Q : PUnit → sProp 𝕄) :
    (owns (c : Thread nD τ) (blk R h) fullShare X : sProp 𝕄)
      ⊢ iprop((owns (c : Thread nD τ) (blk R h) fullShare X -∗ WP c (k X) Q) -∗ WP c (ldOut R h k) Q) := by
  unfold owns
  iintro ⟨%f, %hf, H⟩ Hk
  iapply (wp_load_rect 𝒱₀ (c : Thread nD τ) none Set.univ (m := outBuf) (r := Rect.unit (s := S2048x2048) R S64x2048.size h) (Finset.Subset.refl _)) $$ H; iintro H
  subst hf
  iapply Hk
  iexists f; isplitr; · ipureintro; rfl
  iexact H

/-- A store of 64 rows of the output that are held. -/
theorem stOut_at (R : Fin 2 → Nat) (h : ∀ a, R a + S64x2048.size a ≤ S2048x2048.size a) (X v : FVec F S64x2048 .f32)
    (k : Bd F) (Q : PUnit → sProp 𝕄) :
    (owns (c : Thread nD τ) (blk R h) fullShare X : sProp 𝕄)
      ⊢ iprop((owns (c : Thread nD τ) (blk R h) fullShare v -∗ WP c k Q) -∗ WP c (stOut R h v k) Q) := by
  iintro H Hk
  ihave ⟨%f, %hf, H⟩ := (owns_elim c (blk R h) fullShare X) $$ H
  iapply (wp_store 𝒱₀ (c : Thread nD τ) none Set.univ (m := outBuf) (r := Rect.unit (s := S2048x2048) R S64x2048.size h) (w := v) (Mk := Finset.univ) (S := (blk R h).view.set) (f := f) (Finset.Subset.refl _)) $$ H; iintro H
  iapply Hk
  iapply (owns_written c (blk R h) f v); iexact H

/-- The addition of hop `s`. -/
theorem step_add (l : Fin 4) (s : Fin 7) (b : Fin 2) (X Y : FVec F S64x2048 .f32) :
    Step m κ c iprop(owns (c : Thread nD τ) (slotOf rsBuf l s) fullShare X ∗ owns (c : Thread nD τ) (accSlot l b) fullShare Y ∗ some' c (outSrc c l s.succ))
      iprop(owns (c : Thread nD τ) (slotOf rsBuf l s) fullShare X ∗ owns (c : Thread nD τ) (accSlot l b) fullShare Y ∗ owns (c : Thread nD τ) (outSrc c l s.succ) fullShare (addf X Y))
      (addRows c l s b) := fun K Φ => by
  unfold addRows
  rw [← outRect_eq]
  iintro ⟨-, Hx, Hy, Ho⟩ Hk
  unfold some'; icases Ho with ⟨%Z, Ho⟩
  iapply (ld4_at (c := c) rsBuf l s fullShare X _ Φ) $$ Hx
  iintro %x %hx Hx
  ihave ⟨%g, %hg, Hy⟩ := (owns_elim c (accSlot l b) fullShare Y) $$ Hy
  iapply (wp_load 𝒱₀ (c : Thread nD τ) none Set.univ (m := accBuf) (r := (accRect l b).toLoadRect) (S := (accSlot l b).view.set) (by rw [accSlot_set])) $$ Hy; iintro Hy
  iapply (ldOut_at (c := c) (k0_off5 c (hopW l s.succ.val) 16#32 (rowW l)) (inb_row5 c l s.succ) Z _ Φ) $$ Ho; iintro Ho
  iapply (stOut_at (c := c) (k0_off5 c (hopW l s.succ.val) 16#32 (rowW l)) (inb_row5 c l s.succ) Z _ _ Φ) $$ Ho; iintro Ho
  iapply Hk
  isplitl [Hx]; · iexact Hx
  isplitl [Hy]
  · iapply (owns_back c (accSlot l b) fullShare Y g hg); iexact Hy
  · have e : k0_pay1 x (accBuf.view.readAt (Elt F) (accRect l b).toLoadRect g) = addf X Y := by
      rw [← hx, ← hg]; rfl
    rw [e]; iexact Ho

/-- The copy out of the landing slot of hop `s` of the all-gather. -/
theorem step_rows (l : Fin 4) (s : Fin 7) (q : PosShare TreeShare) (X : FVec F S64x2048 .f32) :
    Step m κ c iprop(owns (c : Thread nD τ) (slotOf agBuf l s) q X ∗ some' c (outSrc c l s.castSucc))
      iprop(owns (c : Thread nD τ) (slotOf agBuf l s) q X ∗ owns (c : Thread nD τ) (outSrc c l s.castSucc) fullShare X)
      (copyRows c l s) := fun K Φ => by
  unfold copyRows
  rw [← outRect_eq]
  iintro ⟨-, Hx, Ho⟩ Hk
  unfold some'; icases Ho with ⟨%Z, Ho⟩
  iapply (ld4_at (c := c) agBuf l s q X _ Φ) $$ Hx
  iintro %x %hx Hx
  iapply (ldOut_at (c := c) (k0_off5 c (hopW l s.castSucc.val) 16#32 (rowW l)) (inb_row5 c l s.castSucc) Z _ Φ) $$ Ho; iintro Ho
  iapply (stOut_at (c := c) (k0_off5 c (hopW l s.castSucc.val) 16#32 (rowW l)) (inb_row5 c l s.castSucc) Z _ _ Φ) $$ Ho; iintro Ho
  iapply Hk
  isplitl [Hx]; · iexact Hx
  have e : k0_pay37 x = X := hx
  rw [e]; iexact Ho

/-- The zero offset of a vector. -/
theorem hz1 : (![0] : Fin 1 → Nat) = fun _ => 0 := funext fun a => by fin_cases a; rfl

/-- The normalisation of lane `l`'s own rows. -/
theorem step_norm (l : Fin 4) (a r : FVec F S64x2048 .f32) (g : FVec F S2048 .f32) :
    Step m κ c iprop(owns (c : Thread nD τ) (outSrc c l 7) fullShare a ∗ owns (c : Thread nD τ) (resSlot l) fullShare r ∗ owns (c : Thread nD τ) gamBuf fullShare g)
      iprop(owns (c : Thread nD τ) (outSrc c l 7) fullShare (normF a r g) ∗ owns (c : Thread nD τ) (resSlot l) fullShare r ∗ owns (c : Thread nD τ) gamBuf fullShare g)
      (normRows c l) := fun K Φ => by
  unfold normRows
  rw [← outOwnB_eq, show gamBuf = Memref.whole cc0_stg0_0 from rfl, owns_whole]
  iintro ⟨-, Ho, Hr, Hg⟩ Hk
  iapply (ldOut_at (c := c) (ownB c l) (inb_ownB c l) a _ Φ) $$ Ho; iintro Ho
  ihave ⟨%f, %hf, Hr⟩ := (owns_elim c (resSlot l) fullShare r) $$ Hr
  iapply (wp_load 𝒱₀ (c : Thread nD τ) none Set.univ (m := resBuf) (r := (resRect l).toLoadRect) (S := (resSlot l).view.set) (by rw [resSlot_set])) $$ Hr; iintro Hr
  iapply (wp_load 𝒱₀ (c : Thread nD τ) none Set.univ (m := gamBuf) (Finset.subset_univ _)) $$ Hg; iintro Hg
  iapply (ldOut_at (c := c) (ownB c l) (inb_ownB c l) a _ Φ) $$ Ho; iintro Ho
  iapply (stOut_at (c := c) (ownB c l) (inb_ownB c l) a _ _ Φ) $$ Ho; iintro Ho
  iapply Hk
  have e : k0_pay34 a (resBuf.view.readAt (Elt F) (resRect l).toLoadRect f) ((Memref.whole cc0_stg0_0 : Memref sig .tc _ _ _).view.readAt (Elt F) (Rect.unit (s := S2048) ![0] S2048.size inb_gam).toLoadRect g) = normF a r g := by
    rw [pay34_eq, read_resSlot, hf]
    congr 1
    exact Memref.readAt_unit_zero (Elt F) cc0_stg0_0 hz1 _ g
  isplitl [Ho]; · rw [← e]; iexact Ho
  isplitl [Hr]
  · iapply (owns_back c (resSlot l) fullShare r f hf); iexact Hr
  · iexact Hg

/-! ## Shares of the inputs -/

/-- The rest of the input's elements, at the share lent. -/
def kept (c : Dev nD) {sp : Space} {s : Shape} (M : Memref sig .tc sp s .f32) (q : PosShare TreeShare) (f : Buf (Elt F) (M.view.loc (c : Thread nD τ))) : sProp 𝕄 :=
  M.view.loc (c : Thread nD τ) ↦[Finset.univ \ M.view.set]{q} f

/-- A share of an input is split into the elements that a copy reads and the rest. -/
theorem lend (c : Dev nD) {sp : Space} {s : Shape} (M : Memref sig .tc sp s .f32) (q : PosShare TreeShare) (f : Buf (Elt F) (M.view.loc (c : Thread nD τ))) :
    (M.view.loc (c : Thread nD τ) ↦{q} f : sProp 𝕄) ⊢ iprop(lent c M q f ∗ kept c M q f) := by
  unfold lent kept; exact (pointsTo_split_subset (Finset.subset_univ _)).1
/-- The elements that a copy read and the rest are the share of the input again. -/
theorem unlend (c : Dev nD) {sp : Space} {s : Shape} (M : Memref sig .tc sp s .f32) (q : PosShare TreeShare) (f : Buf (Elt F) (M.view.loc (c : Thread nD τ))) :
    iprop(lent c M q f ∗ kept c M q f) ⊢ (M.view.loc (c : Thread nD τ) ↦{q} f : sProp 𝕄) := by
  unfold lent kept; exact (pointsTo_split_subset (Finset.subset_univ _)).2

variable (m)

/-- A share of the whole partial result; of the whole residual. -/
def parSh (c : Dev nD) (q : PosShare TreeShare) : sProp 𝕄 := (c : Thread nD τ).loc main_arg0 ↦{q} parOf m c
def rsdSh (c : Dev nD) (q : PosShare TreeShare) : sProp 𝕄 := (c : Thread nD τ).loc main_arg1 ↦{q} rsdOf m c

/-! ## Staging copies -/

/-- A token of one's own cell, or another's. -/
abbrev tok (c : Dev nD) (k : Kd) (r : ℕ) (d : Bool) : sProp 𝕄 := dutyTok ER (cellK c k) r d
/-- The device's position on a one-round cell, and its claim on the round's credit. -/
abbrev pos (c : Dev nD) (k : Kd) (r : ℕ) : sProp 𝕄 := atPos ER (cellK c k) r ∅ 0
abbrev crd (c : Dev nD) (k : Kd) : sProp 𝕄 := cred (tallyAt (cellK c k) () (amtK k))
abbrev zero (c : Dev nD) (k : Kd) : sProp 𝕄 := semVal (cellK c k) 0

/-- The staging slot the chunk of hop `t` goes to, free. -/
def IdleAt (c : Dev nD) (l : Fin 4) (t : ℕ) : sProp 𝕄 :=
  iprop(some' c (accSlot l (parity t)) ∗ parSh m c (qA l (parity t)) ∗ pos c (.acc l (parity t)) (t / 2) ∗ reached ER (cellK c (.acc l (parity t))) (t / 2))
/-- The same with the copy under way. -/
def BusyAt (c : Dev nD) (l : Fin 4) (t : Fin 7) : sProp 𝕄 :=
  iprop(crd c (.acc l (parity t.val)) ∗ pos c (.acc l (parity t.val)) (t.val / 2) ∗ kept c (parSrc c l t.succ) (qA l (parity t.val)) (parOf m c))

/-- The hop that a staging slot's round serves. -/
theorem round_hop : ∀ t : Fin 7, h8 (2 * (t.val / 2) + (parity t.val).val + 1) = t.succ := by decide
/-- The round that a hop uses is one of the slot's rounds. -/
theorem round_lt : ∀ t : Fin 7, 2 * (t.val / 2) + (parity t.val).val < 7 := by decide

/-- What a staging copy hands over: the rows of the hop's chunk, and the lent share. -/
theorem pay_acc (c : Dev nD) (l : Fin 4) (t : Fin 7) :
    payK m c (.acc l (parity t.val)) (t.val / 2) false
      = iprop(owns (c : Thread nD τ) (accSlot l (parity t.val)) fullShare (Bl m c l t.succ) ∗ lent c (parSrc c l t.succ) (qA l (parity t.val)) (parOf m c)) := by
  show iprop(owns (c : Thread nD τ) (accSlot l (parity t.val)) fullShare (Bl m c l (h8 (2 * (t.val / 2) + (parity t.val).val + 1))) ∗ lent c (parSrc c l (h8 (2 * (t.val / 2) + (parity t.val).val + 1))) (qA l (parity t.val)) (parOf m c)) = _
  rw [round_hop]

variable {m}

/-- The start of a staging copy. -/
theorem step_stage (l : Fin 4) (t : Fin 7) :
    Step m κ c iprop(IdleAt m c l t.val ∗ tok c (.acc l (parity t.val)) (t.val / 2) false) (BusyAt m c l t) (stageStart c l t.succ (parity t.val)) := fun K Φ => by
  unfold IdleAt BusyAt parSh
  iintro ⟨#HR, ⟨Hd, Hs, Hp, Hr⟩, Ht⟩ Hk
  ihave ⟨Hs, Hkp⟩ := (lend c (parSrc c l t.succ) (qA l (parity t.val)) (parOf m c)) $$ Hs
  iapply (step_copy (m := m) (κ := κ) (c := c) (.acc l (parity t.val)) (t.val / 2) (by rw [dut_acc _ _ _ (round_lt t)]; exact Finset.mem_singleton_self _) (accCell l (parity t.val)) rfl
    (parSrc c l t.succ) (accSlot l (parity t.val)) ((View.wordExact_bits rfl).reshape _ _) ((View.wordExact_bits rfl).reshape _ _) ⟨Or.inl rfl, trivial⟩
    (qA l (parity t.val)) (parOf m c) rfl (pay_acc m c l t) K Φ) $$ [Hd Hs Ht Hr]
  · isplitr; · iexact HR
    isplitl [Hd]; · iexact Hd
    isplitl [Hs]; · iexact Hs
    isplitl [Ht] <;> iassumption
  iintro Hc
  iapply Hk
  isplitl [Hc]; · iexact Hc
  isplitl [Hp] <;> iassumption

/-- The wait for a staging copy: the slot holds the device's own rows of the hop's chunk. -/
theorem step_stageWait (l : Fin 4) (t : Fin 7) (n : ℕ) (hn : ∀ i < n, 0 < lvK (debtKd i)) :
    Step m κ c iprop(BusyAt m c l t ∗ Ow c n)
      iprop((owns (c : Thread nD τ) (accSlot l (parity t.val)) fullShare (Bl m c l t.succ) ∗ parSh m c (qA l (parity t.val))
        ∗ pos c (.acc l (parity t.val)) (t.val / 2 + 1) ∗ reached ER (cellK c (.acc l (parity t.val))) (t.val / 2 + 1)) ∗ Ow c n)
      (stageWait c l t.succ (parity t.val)) := fun K Φ => by
  unfold BusyAt
  iintro ⟨#HR, ⟨Hc, Hp, Hkp⟩, HO⟩ Hk
  iapply (step_wait (m := m) (κ := κ) (c := c) (.acc l (parity t.val)) (t.val / 2) n (dut_acc _ _ _ (round_lt t)) hn (accCell l (parity t.val)) rfl
    (parSrc c l t.succ) (accSlot l (parity t.val)) ((View.wordExact_bits rfl).reshape _ _) ((View.wordExact_bits rfl).reshape _ _) rfl K Φ) $$ [Hc Hp HO]
  · isplitr; · iexact HR
    isplitl [Hc]; · iexact Hc
    isplitl [Hp] <;> iassumption
  rw [pay_acc]
  iintro ⟨⟨Hp, Hr, Hd, Hs⟩, HO⟩
  iapply Hk
  isplitr [HO]
  · isplitl [Hd]; · iexact Hd
    isplitl [Hs Hkp]
    · unfold parSh; iapply (unlend c (parSrc c l t.succ) (qA l (parity t.val)) (parOf m c))
      isplitl [Hs] <;> iassumption
    isplitl [Hp] <;> iassumption
  · iexact HO

/-- The start of the residual's copy. -/
theorem step_res (l : Fin 4) :
    Step m κ c iprop(some' c (resSlot l) ∗ rsdSh m c (qR l) ∗ tok c (.res l) 0 false) iprop(crd c (.res l) ∗ kept c (rsdOwn c l) (qR l) (rsdOf m c)) (resStart c l) := fun K Φ => by
  unfold rsdSh
  iintro ⟨#HR, Hd, Hs, Ht⟩ Hk
  ihave ⟨Hs, Hkp⟩ := (lend c (rsdOwn c l) (qR l) (rsdOf m c)) $$ Hs
  iapply (step_copy (m := m) (κ := κ) (c := c) (.res l) 0 (Finset.mem_singleton_self _) (resCell l) rfl
    (rsdOwn c l) (resSlot l) (View.wordExact_bits rfl) ((View.wordExact_bits rfl).reshape _ _) ⟨Or.inl rfl, trivial⟩
    (qR l) (rsdOf m c) rfl rfl K Φ) $$ [Hd Hs Ht]
  · isplitr; · iexact HR
    isplitl [Hd]; · iexact Hd
    isplitl [Hs]; · iexact Hs
    isplitl [Ht]; · iexact Ht
    iapply (records_reached m κ c (.res l)); iexact HR
  iintro Hc
  iapply Hk
  isplitl [Hc] <;> iassumption

/-- The start of the copy of the device's own chunk. -/
theorem step_mine :
    Step m κ c iprop(some' c stageBuf ∗ parSh m c qM ∗ tok c .mine 0 false) iprop(crd c .mine ∗ kept c (parMine c) qM (parOf m c)) (mineStart c) := fun K Φ => by
  unfold parSh
  iintro ⟨#HR, Hd, Hs, Ht⟩ Hk
  ihave ⟨Hs, Hkp⟩ := (lend c (parMine c) qM (parOf m c)) $$ Hs
  iapply (step_copy (m := m) (κ := κ) (c := c) .mine 0 (Finset.mem_singleton_self _) mineCell rfl
    (parMine c) stageBuf ((View.wordExact_bits rfl).reshape _ _) (Memref.isWhole_whole _).wordExact ⟨Or.inl rfl, trivial⟩
    qM (parOf m c) rfl rfl K Φ) $$ [Hd Hs Ht]
  · isplitr; · iexact HR
    isplitl [Hd]; · iexact Hd
    isplitl [Hs]; · iexact Hs
    isplitl [Ht]; · iexact Ht
    iapply (records_reached m κ c .mine); iexact HR
  iintro Hc
  iapply Hk
  isplitl [Hc] <;> iassumption

/-- The wait for the own chunk. -/
theorem step_mineWait (n : ℕ) (hn : ∀ i < n, 0 < lvK (debtKd i)) :
    Step m κ c iprop((crd c .mine ∗ pos c .mine 0) ∗ Ow c n)
      iprop((zero c .mine ∗ payK m c .mine 0 false) ∗ Ow c n) (mineWait c) :=
  step_wait_close .mine 0 n rfl (fun r' h => if_neg (by omega)) hn mineCell rfl (parMine c) stageBuf ((View.wordExact_bits rfl).reshape _ _) (Memref.isWhole_whole _).wordExact rfl

/-- The wait for the residual's copy. -/
theorem step_resWait (l : Fin 4) (n : ℕ) (hn : ∀ i < n, 0 < lvK (debtKd i)) :
    Step m κ c iprop((crd c (.res l) ∗ pos c (.res l) 0) ∗ Ow c n)
      iprop((zero c (.res l) ∗ payK m c (.res l) 0 false) ∗ Ow c n) (resWait c l) :=
  step_wait_close (.res l) 0 n rfl (fun r' h => if_neg (by omega)) hn (resCell l) rfl (rsdOwn c l) (resSlot l) (View.wordExact_bits rfl) ((View.wordExact_bits rfl).reshape _ _) rfl

/-! ## Transfers and their waits -/

/-- The wait for the rows that arrive at a hop of the reduce-scatter. -/
theorem step_rsRecvWait (l : Fin 4) : ∀ (s : Fin 7) (n : ℕ) (hn : ∀ i < n, 2 + s.val < lvK (debtKd i)),
    Step m κ c iprop((crd c (.rem .rsR l s) ∗ pos c (.rem .rsR l s) 0) ∗ Ow c n)
      iprop((zero c (.rem .rsR l s) ∗ payK m c (.rem .rsR l s) 0 false) ∗ Ow c n) (rsRecvWait c l s)
  | ⟨0, _⟩, n, hn => step_wait_close (.rem .rsR l 0) 0 n rfl (dut_rem_later _ _ _) hn (rsRecvC l 0) rfl (stageSlot l) (slotOf rsBuf l 0) _ _ rfl
  | ⟨s + 1, h⟩, n, hn => step_wait_close (.rem .rsR l ⟨s + 1, h⟩) 0 n rfl (dut_rem_later _ _ _) hn (rsRecvC l ⟨s + 1, h⟩) rfl (outSrc c l ⟨s + 1, by omega⟩) (slotOf rsBuf l ⟨s + 1, h⟩) _ _ rfl

/-- The wait for the rows that arrive at a hop of the all-gather. -/
theorem step_agRecvWait (l : Fin 4) : ∀ (s : Fin 7) (n : ℕ) (hn : ∀ i < n, 9 + s.val < lvK (debtKd i)),
    Step m κ c iprop((crd c (.rem .agR l s) ∗ pos c (.rem .agR l s) 0) ∗ Ow c n)
      iprop((zero c (.rem .agR l s) ∗ payK m c (.rem .agR l s) 0 false) ∗ Ow c n) (agRecvWait c l s)
  | ⟨0, _⟩, n, hn => step_wait_close (.rem .agR l 0) 0 n rfl (dut_rem_later _ _ _) hn (agRecvC l 0) rfl (outOwn c l) (slotOf agBuf l 0) _ _ rfl
  | ⟨s + 1, h⟩, n, hn => step_wait_close (.rem .agR l ⟨s + 1, h⟩) 0 n rfl (dut_rem_later _ _ _) hn (agRecvC l ⟨s + 1, h⟩) rfl (slotOf agBuf l ⟨s, by omega⟩) (slotOf agBuf l ⟨s + 1, h⟩) _ _ rfl

/-- The wait for a send of the reduce-scatter: the sent rows come back. -/
theorem step_rsSendWait (l : Fin 4) : ∀ (s : Fin 7) (n : ℕ) (hn : ∀ i < n, 0 < lvK (debtKd i)),
    Step m κ c iprop((crd c (.rem .rsS l s) ∗ pos c (.rem .rsS l s) 0) ∗ Ow c n)
      iprop((zero c (.rem .rsS l s) ∗ rsOut m c l s) ∗ Ow c n) (rsSendWait c l s)
  | ⟨0, _⟩, n, hn => step_wait_close (.rem .rsS l 0) 0 n rfl (dut_rem_later _ _ _) hn (rsSendC l 0) rfl (slotOf rsBuf l 0) (stageSlot l) _ _ rfl
  | ⟨s + 1, h⟩, n, hn => step_wait_close (.rem .rsS l ⟨s + 1, h⟩) 0 n rfl (dut_rem_later _ _ _) hn (rsSendC l ⟨s + 1, h⟩) rfl (slotOf rsBuf l ⟨s + 1, h⟩) (outSrc c l ⟨s + 1, by omega⟩) _ _ rfl

/-- The wait for a send of the all-gather: the sent rows come back. -/
theorem step_agSendWait (l : Fin 4) : ∀ (s : Fin 7) (n : ℕ) (hn : ∀ i < n, 0 < lvK (debtKd i)),
    Step m κ c iprop((crd c (.rem .agS l s) ∗ pos c (.rem .agS l s) 0) ∗ Ow c n)
      iprop((zero c (.rem .agS l s) ∗ agOut m c l s) ∗ Ow c n) (agSendWait c l s)
  | ⟨0, _⟩, n, hn => step_wait_close (.rem .agS l 0) 0 n rfl (dut_rem_later _ _ _) hn (agSendC l 0) rfl (slotOf agBuf l 0) (outOwn c l) _ _ rfl
  | ⟨s + 1, h⟩, n, hn => step_wait_close (.rem .agS l ⟨s + 1, h⟩) 0 n rfl (dut_rem_later _ _ _) hn (agSendC l ⟨s + 1, h⟩) rfl (slotOf agBuf l ⟨s + 1, h⟩) (slotOf agBuf l ⟨s, by omega⟩) _ _ rfl

/-- What a lane needs besides the rows for the send of hop `s`: the landing slot and the tokens of the two cells. -/
def toRs (c : Dev nD) (l : Fin 4) (s : Fin 7) : sProp 𝕄 :=
  iprop(some' (peer l c) (slotOf rsBuf l s) ∗ tok c (.rem .rsS l s) 0 false ∗ tok (peer l c) (.rem .rsR l s) 0 false)
def toAg (c : Dev nD) (l : Fin 4) (s : Fin 7) : sProp 𝕄 :=
  iprop(some' (peer l c) (slotOf agBuf l s) ∗ tok c (.rem .agS l s) 0 false ∗ tok (peer l c) (.rem .agR l s) 0 false)

/-- What a send of the reduce-scatter lands at the neighbour: the sender's sum. -/
theorem pay_rsR (c : Dev nD) (l : Fin 4) (s : Fin 7) :
    payK m (peer l c) (.rem .rsR l s) 0 false = owns (peer l c : Thread nD τ) (slotOf rsBuf l s) fullShare (Sm m l s.val c) := by
  show (owns (peer l c : Thread nD τ) (slotOf rsBuf l s) fullShare (Sm m l s.val (frm l (peer l c))) : sProp 𝕄) = _
  rw [frm_peer]
/-- What a send of the all-gather lands at the neighbour: the rows sent. -/
theorem pay_agR (c : Dev nD) (l : Fin 4) (s : Fin 7) :
    payK m (peer l c) (.rem .agR l s) 0 false = owns (peer l c : Thread nD τ) (slotOf agBuf l s) fullShare (Av m l s.val c) := by
  show (owns (peer l c : Thread nD τ) (slotOf agBuf l s) fullShare (Av m l s.val (frm l (peer l c))) : sProp 𝕄) = _
  rw [frm_peer]

/-- A lane's first send of the reduce-scatter. -/
theorem step_rsSend0 (l : Fin 4) :
    Step m κ c iprop((owns (c : Thread nD τ) (stageSlot l) fullShare (Sm m l 0 c) ∗ toRs c l 0) ∗ Ow c (leftRs l 0 + 1))
      iprop(crd c (.rem .rsS l 0) ∗ Ow c (leftRs l 0)) (rsSend0 c l) :=
  step_send l (.rem .rsS l 0) (.rem .rsR l 0) (leftRs l 0) rfl rfl (rsSendC l 0) (rsRecvC l 0) rfl rfl (stageSlot l) (slotOf rsBuf l 0) _ _ _ _ fullShare (Sm m l 0 c)
    rfl rfl rfl (owe_rs c l 0) rfl (pay_rsR c l 0)

/-- A lane's later sends of the reduce-scatter, from the result's rows. -/
theorem step_rsSend (l : Fin 4) (s : Fin 6) :
    Step m κ c iprop((owns (c : Thread nD τ) (outSrc c l s.castSucc.succ) fullShare (Sm m l (s.val + 1) c) ∗ toRs c l s.succ) ∗ Ow c (leftRs l s.succ + 1))
      iprop(crd c (.rem .rsS l s.succ) ∗ Ow c (leftRs l s.succ)) (rsSend c l s) :=
  step_send l (.rem .rsS l s.succ) (.rem .rsR l s.succ) (leftRs l s.succ) rfl rfl (rsSendC l s.succ) (rsRecvC l s.succ) rfl rfl (outSrc c l s.castSucc.succ) (slotOf rsBuf l s.succ) _ _ _ _ fullShare (Sm m l (s.val + 1) c)
    rfl rfl rfl (owe_rs c l s.succ) rfl (pay_rsR c l s.succ)

/-- A lane's first send of the all-gather, of the rows it finished. -/
theorem step_agSend0 (l : Fin 4) :
    Step m κ c iprop((owns (c : Thread nD τ) (outSrc c l 7) fullShare (Zv m l c) ∗ toAg c l 0) ∗ Ow c (leftAg l 0 + 1))
      iprop(crd c (.rem .agS l 0) ∗ Ow c (leftAg l 0)) (agSend0 c l) := by
  rw [← outOwn_eq]
  exact step_send l (.rem .agS l 0) (.rem .agR l 0) (leftAg l 0) rfl rfl (agSendC l 0) (agRecvC l 0) rfl rfl (outOwn c l) (slotOf agBuf l 0) _ _ _ _ fullShare (Av m l 0 c)
    rfl rfl rfl (owe_ag c l 0) rfl (pay_agR c l 0)

/-- A lane's later sends of the all-gather, from the slot where the rows landed. -/
theorem step_agSend (l : Fin 4) (s : Fin 6) :
    Step m κ c iprop((owns (c : Thread nD τ) (slotOf agBuf l s.castSucc) fullShare.right (Av m l s.val (frm l c)) ∗ toAg c l s.succ) ∗ Ow c (leftAg l s.succ + 1))
      iprop(crd c (.rem .agS l s.succ) ∗ Ow c (leftAg l s.succ)) (agSend c l s) :=
  step_send l (.rem .agS l s.succ) (.rem .agR l s.succ) (leftAg l s.succ) rfl rfl (agSendC l s.succ) (agRecvC l s.succ) rfl rfl (slotOf agBuf l s.castSucc) (slotOf agBuf l s.succ) _ _ _ _ fullShare.right (Av m l (s.val + 1) c)
    rfl rfl rfl (owe_ag c l s.succ) rfl (pay_agR c l s.succ)

/-! ## The exchanges of signals -/

/-- A unit to each neighbour, with what the schedule hands over, and the wait for both neighbours' units. -/
theorem step_meet (k : Kd) (sem : Sem sig) (hs : semOf k = .reg sem) (n : ℕ) (hd : dutK k 0 = Finset.univ) (hlast : ∀ r' ≥ 0 + 1, dutK k r' = ∅) (hk : amtK k = 1)
    (hlev : ∀ i < n, lvK k < lvK (debtKd i))
    (h0 : owe c (n + 2) = owe c (n + 1) + tallyAt (cellK (lft c) k) () 1) (h1 : owe c (n + 1) = owe c n + tallyAt (cellK (rgt c) k) () 1) :
    Step m κ c iprop((payK m (lft c) k 0 true ∗ payK m (rgt c) k 0 false ∗ tok (lft c) k 0 true ∗ tok (rgt c) k 0 false ∗ cred (tallyAt (cellK c k) () 2) ∗ pos c k 0) ∗ Ow c (n + 2))
      iprop((zero c k ∗ payK m c k 0 false ∗ payK m c k 0 true) ∗ Ow c n) (meet c sem) := fun K Φ => by
  have hi := records_inv m κ c k
  have hil := records_inv m κ (lft c) k
  have hir := records_inv m κ (rgt c) k
  have hrl := records_reached m κ (lft c) k
  have hrr := records_reached m κ (rgt c) k
  have hdl : true ∈ (Rd (F := F) m).duties (cellK (lft c) k) 0 := by rw [duties_eq, hd]; exact Finset.mem_univ _
  have hdr : false ∈ (Rd (F := F) m).duties (cellK (rgt c) k) 0 := by rw [duties_eq, hd]; exact Finset.mem_univ _
  have hal := (amount_eq (F := F) m (lft c) k 0 true).trans hk
  have har := (amount_eq (F := F) m (rgt c) k 0 false).trans hk
  have hpl := payload_eq (F := F) m (lft c) k 0 true
  have hpr := payload_eq (F := F) m (rgt c) k 0 false
  have hex : (Rd (F := F) m).expect (cellK c k) 0 = 2 := by rw [expect_eq, hd, hk]; rfl
  have hrest := rest_two (F := F) m c k 0 hd
  have hmw := (records_lev m κ).trans (mayWait (F := F) c (semOf k) n (by rw [dec_semOf]; exact hlev))
  have hcl : ∀ r' ≥ 0 + 1, (Rd (F := F) m).duties (cellK c k) r' = ∅ := fun r' h => (duties_eq m c k r').trans (hlast r' h)
  unfold meet
  unfold zero tok pos
  unfold cellK at *
  rw [hs] at *
  iintro ⟨#HR, ⟨Hpl, Hpr, Htl, Htr, Hc, Ha⟩, HO⟩ Hk
  unfold Ow
  icases HO with ⟨%W, HO⟩
  iapply (Rounds.wp_signal 𝒱₀ ER (Rd m) (c : Thread nD τ) none (dst := (lft c : Thread nD τ)) (κ := κ (lft c, k)) (d := true) hdl (hal.trans (by decide)) () (owe c (n + 1)) h0)
    $$ [HO Htl Hpl]
  · isplitr; · iapply hil; iexact HR
    isplitl [HO]; · iexact HO
    isplitl [Htl]; · iexact Htl
    isplitl [Hpl]; · iapply (Entails.of_eq hpl.symm); iexact Hpl
    iapply hrl; iexact HR
  iintro HO
  iapply (Rounds.wp_signal 𝒱₀ ER (Rd m) (c : Thread nD τ) none (dst := (rgt c : Thread nD τ)) (κ := κ (rgt c, k)) (d := false) hdr (har.trans (by decide)) () (owe c n) h1)
    $$ [HO Htr Hpr]
  · isplitr; · iapply hir; iexact HR
    isplitl [HO]; · iexact HO
    isplitl [Htr]; · iexact Htr
    isplitl [Hpr]; · iapply (Entails.of_eq hpr.symm); iexact Hpr
    iapply hrr; iexact HR
  iintro HO
  iapply (Rounds.wp_wait_rest_token 𝒱₀ ER (Rd m) (c : Thread nD τ) none (κ := κ (c, k))
      (wpE_semWait_eq 𝒱₀ (c : Thread nD τ) none Set.univ) (Set.mem_univ _) () (O := owe c n) (W := W) (R := 0) (m := 0) (T := ∅)
      (by rw [hex]; decide)) $$ [Hc HO Ha]
  · isplitr; · iapply hi; iexact HR
    isplitl [Hc]; · iexact Hc
    isplitl [HO]; · iexact HO
    isplitr; · iapply hmw; iexact HR
    iexact Ha
  iintro ⟨HO, Ha, -, Hp⟩
  imod (Rounds.cell_close ER (Rd m) (Set.mem_univ (κ (c, k))) (fun h => h) (R := 0 + 1) hcl) $$ [Ha] with Hz
  · isplitr; · iapply hi; iexact HR
    iexact Ha
  iapply Hk
  isplitr [HO]
  · isplitl [Hz]; · iexact Hz
    iapply (Entails.of_eq hrest); iexact Hp
  · iexists _; iexact HO

end Cert.KernelIdeal.RingProof

end
-- ==== Proof.RingBody.lean ====
/-
# A device's run, hop by hop

The reduce-scatter and the all-gather assembled from the single steps: what each lane needs at each hop, what it leaves, and
what the hops hand along.
-/
module

public import proofs.«01_k».proof.Proof.RingOps

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions over lanes and hops -/

/-- Seven resources: the first and the other six. -/
theorem fin7_succ (f : Fin 7 → sProp 𝕄) : bigSep Finset.univ f = iprop(f 0 ∗ bigSep Finset.univ fun s : Fin 6 => f s.succ) := by
  rw [bigSep_fin7, bigSep_fin6]; rfl
/-- Seven resources: the first six and the last. -/
theorem fin7_cast (f : Fin 7 → sProp 𝕄) : bigSep Finset.univ f = iprop((bigSep Finset.univ fun s : Fin 6 => f s.castSucc) ∗ f 6) := by
  rw [bigSep_fin7, bigSep_fin6]
  refine BI.equiv_iff.mp ⟨?_, ?_⟩
  · show iprop(f 0 ∗ f 1 ∗ f 2 ∗ f 3 ∗ f 4 ∗ f 5 ∗ f 6) ⊢ iprop((f 0 ∗ f 1 ∗ f 2 ∗ f 3 ∗ f 4 ∗ f 5) ∗ f 6)
    iintro ⟨H0, H1, H2, H3, H4, H5, H6⟩
    isplitr [H6]
    · isplitl [H0]; · iexact H0
      isplitl [H1]; · iexact H1
      isplitl [H2]; · iexact H2
      isplitl [H3]; · iexact H3
      isplitl [H4] <;> iassumption
    · iexact H6
  · show iprop((f 0 ∗ f 1 ∗ f 2 ∗ f 3 ∗ f 4 ∗ f 5) ∗ f 6) ⊢ iprop(f 0 ∗ f 1 ∗ f 2 ∗ f 3 ∗ f 4 ∗ f 5 ∗ f 6)
    iintro ⟨⟨H0, H1, H2, H3, H4, H5⟩, H6⟩
    isplitl [H0]; · iexact H0
    isplitl [H1]; · iexact H1
    isplitl [H2]; · iexact H2
    isplitl [H3]; · iexact H3
    isplitl [H4]; · iexact H4
    isplitl [H5] <;> iassumption

/-- A family over two indices may be listed in either order. -/
theorem swap {α β : Type} [Fintype α] [Fintype β] (f : α → β → sProp 𝕄) :
    (bigSep Finset.univ fun a => bigSep Finset.univ fun b => f a b) = bigSep Finset.univ fun b => bigSep Finset.univ fun a => f a b := by
  rw [← bigSep_univ_prod (fun p : α × β => f p.1 p.2), ← bigSep_univ_prod (fun p : β × α => f p.2 p.1), bigSep_univ_equiv (Equiv.prodComm β α) (fun p : α × β => f p.1 p.2)]; rfl

variable {m : (ℓ : Loc nD τ sig) → Buf (Elt F) ℓ} {κ : Dev nD × Kd → ℕ} {c : Dev nD}

/-- Lanes with nothing handed along. -/
theorem Step.lanes₀ {A B : Fin 4 → sProp 𝕄} {f : Fin 4 → Bd F → Bd F} (h : ∀ l : Fin 4, Step m κ c (A l) (B l) (f l)) :
    Step m κ c (bigSep Finset.univ A) (bigSep Finset.univ B) (RingProof.lanes f) :=
  (Step.lanes (A := A) (B := B) (I := fun _ => iprop(emp)) fun l => (h l).frame _).conseq
    (by iintro H; isplitl [H]; · iexact H
        iempintro) (by iintro ⟨H, -⟩; iexact H)

/-! ## Reduce-scatter -/

/-- Hops two apart use the same staging slot. -/
theorem parity_two (t : ℕ) : parity (t + 2) = parity t := Fin.ext (Nat.add_mod_right t 2)

/-- A lane's part of hop `t`: the rows arrive, the own rows are staged, their sum goes into the output. -/
theorem step_rsBody (l : Fin 4) (t : Fin 7) (n : ℕ) (hn : ∀ i < n, 2 + t.val < lvK (debtKd i)) :
    Step m κ c iprop((crd c (.rem .rsR l t) ∗ pos c (.rem .rsR l t) 0 ∗ BusyAt m c l t ∗ some' c (outSrc c l t.succ)) ∗ Ow c n)
      iprop((zero c (.rem .rsR l t) ∗ some' c (slotOf rsBuf l t) ∗ IdleAt m c l (t.val + 2) ∗ owns (c : Thread nD τ) (outSrc c l t.succ) fullShare (Sm m l (t.val + 1) c)) ∗ Ow c n)
      (rsBody c l t) := fun K Φ => by
  have hn0 : ∀ i < n, 0 < lvK (debtKd i) := fun i hi => Nat.lt_of_le_of_lt (Nat.zero_le _) (hn i hi)
  unfold rsBody
  iintro ⟨#HR, ⟨Hc, Hp, HB, Ho⟩, HO⟩ Hk
  iapply (step_rsRecvWait (m := m) (κ := κ) (c := c) l t n hn _ Φ) $$ [Hc Hp HO]
  · isplitr; · iexact HR
    isplitr [HO]
    · isplitl [Hc] <;> iassumption
    · iexact HO
  iintro ⟨⟨Hz, Hx⟩, HO⟩
  iapply (step_stageWait (m := m) (κ := κ) (c := c) l t n hn0 _ Φ) $$ [HB HO]
  · isplitr; · iexact HR
    isplitl [HB] <;> iassumption
  iintro ⟨⟨Hy, Hs, Ha, Hr⟩, HO⟩
  iapply (step_add (m := m) (κ := κ) (c := c) l t (parity t.val) (Sm m l t.val (frm l c)) (Bl m c l t.succ) _ Φ) $$ [Hx Hy Ho]
  · isplitr; · iexact HR
    isplitl [Hx]; · unfold payK; iexact Hx
    isplitl [Hy] <;> iassumption
  iintro ⟨Hx, Hy, Ho⟩
  iapply Hk
  isplitr [HO]
  · isplitl [Hz]; · iexact Hz
    isplitl [Hx]; · iapply (some'_of c (slotOf rsBuf l t) _); iexact Hx
    isplitr [Ho]
    · unfold IdleAt
      rw [parity_two, show (t.val + 2) / 2 = t.val / 2 + 1 by omega]
      isplitl [Hy]; · iapply (some'_of c (accSlot l (parity t.val)) _); iexact Hy
      isplitl [Hs]; · iexact Hs
      isplitl [Ha] <;> iassumption
    · have e : Sm m l (t.val + 1) c = addf (Sm m l t.val (frm l c)) (Bl m c l t.succ) := by
        show addf (Sm m l t.val (frm l c)) (Bl m c l (h8 (t.val + 1))) = _
        rw [h8_succ]
      rw [e]; iexact Ho
  · iexact HO

/-- The count of debts before and after the send of a later hop of the reduce-scatter, in the two ways it is needed. -/
theorem left_rs (l : Fin 4) (s : Fin 6) : leftRs l s.succ = 54 - 4 * s.val - (l.val + 1) ∧ leftRs l s.succ + 1 = 54 - 4 * s.val - l.val ∧ 54 - 4 * s.val - l.val = 54 - (4 * s.castSucc.val + l.val) := by
  revert l s; decide
/-- The count of debts before and after a lane's first send of the reduce-scatter. -/
theorem left_rs0 (l : Fin 4) : leftRs l 0 = 58 - (l.val + 1) ∧ leftRs l 0 + 1 = 58 - l.val := by revert l; decide
/-- The count of debts before and after the send of a later hop of the all-gather, in the two ways it is needed. -/
theorem left_ag (l : Fin 4) (s : Fin 6) : leftAg l s.succ = 26 - 4 * s.val - (l.val + 1) ∧ leftAg l s.succ + 1 = 26 - 4 * s.val - l.val ∧ 26 - 4 * s.val - l.val = 26 - (4 * s.castSucc.val + l.val) := by
  revert l s; decide
/-- The count of debts before and after a lane's first send of the all-gather. -/
theorem left_ag0 (l : Fin 4) : leftAg l 0 = 30 - (l.val + 1) ∧ leftAg l 0 + 1 = 30 - l.val := by revert l; decide

/-- What lane `l` needs of its own at hop `s` besides what the hops hand along; what it leaves. -/
def rsNeed (c : Dev nD) (s : Fin 6) (l : Fin 4) : sProp 𝕄 :=
  iprop(crd c (.rem .rsR l s.castSucc) ∗ pos c (.rem .rsR l s.castSucc) 0 ∗ some' c (outSrc c l s.castSucc.succ) ∗ toRs c l s.succ)
def rsLeave (c : Dev nD) (s : Fin 6) (l : Fin 4) : sProp 𝕄 :=
  iprop(zero c (.rem .rsR l s.castSucc) ∗ some' c (slotOf rsBuf l s.castSucc) ∗ crd c (.rem .rsS l s.succ))

/-- A lane's part of hop `s` and the send of hop `s + 1`. -/
theorem step_rsLane (s : Fin 6) (l : Fin 4) :
    Step m κ c iprop((rsNeed c s l ∗ BusyAt m c l s.castSucc) ∗ Ow c (54 - 4 * s.val - l.val))
      iprop((rsLeave c s l ∗ IdleAt m c l (s.val + 2)) ∗ Ow c (54 - 4 * s.val - (l.val + 1)))
      (fun k => rsBody c l s.castSucc (rsSend c l s k)) := fun K Φ => by
  obtain ⟨e1, e2, e3⟩ := left_rs l s
  have hs := step_rsSend (m := m) (κ := κ) (c := c) l s
  rw [e2, e1] at hs
  unfold rsNeed rsLeave
  iintro ⟨#HR, ⟨⟨Hc, Hp, Ho, Ht⟩, HB⟩, HO⟩ Hk
  iapply (step_rsBody (m := m) (κ := κ) (c := c) l s.castSucc (54 - 4 * s.val - l.val) (by rw [e3]; exact level_rs l s.castSucc) _ Φ) $$ [Hc Hp Ho HB HO]
  · isplitr; · iexact HR
    isplitr [HO]
    · isplitl [Hc]; · iexact Hc
      isplitl [Hp]; · iexact Hp
      isplitl [HB] <;> iassumption
    · iexact HO
  iintro ⟨⟨Hz, Hx, HI, Ho⟩, HO⟩
  iapply (hs _ Φ) $$ [Ho Ht HO]
  · isplitr; · iexact HR
    isplitr [HO]
    · isplitl [Ho]; · iexact Ho
      iexact Ht
    · iexact HO
  iintro ⟨Hc, HO⟩
  iapply Hk
  isplitr [HO]
  · isplitr [HI]
    · isplitl [Hz]; · iexact Hz
      isplitl [Hx] <;> iassumption
    · iexact HI
  · iexact HO

/-- The hop's number as one of seven. -/
def f7 (t : ℕ) : Fin 7 := ⟨t % 7, Nat.mod_lt _ (by decide)⟩
/-- The hop number of one of the first six hops. -/
theorem f7_cast (s : Fin 6) : f7 s.val = s.castSucc := by revert s; decide
/-- The hop number of the hop after one of the first six. -/
theorem f7_succ (s : Fin 6) : f7 (s.val + 1) = s.succ := by revert s; decide

/-- A staging copy's token. -/
abbrev stTok (c : Dev nD) (l : Fin 4) (t : Fin 7) : sProp 𝕄 := tok c (.acc l (parity t.val)) (t.val / 2) false

variable (m) in
/-- What the hops of the reduce-scatter hand along: this hop's staging copies under way, the next one's slots free, and the
    payments still owed. -/
def rsCarry (c : Dev nD) (t : ℕ) : sProp 𝕄 :=
  iprop(((bigSep Finset.univ fun l => BusyAt m c l (f7 t)) ∗ (bigSep Finset.univ fun l => IdleAt m c l (t + 1))) ∗ Ow c (54 - 4 * t))

/-- A hop of the reduce-scatter but the last. -/
theorem step_rsHop (s : Fin 6) :
    Step m κ c iprop(((bigSep Finset.univ fun l => stTok c l s.succ) ∗ (bigSep Finset.univ (rsNeed c s))) ∗ rsCarry m c s.val)
      iprop((bigSep Finset.univ (rsLeave c s)) ∗ rsCarry m c (s.val + 1)) (rsHop c s) := fun K Φ => by
  have h1 := Step.lanes₀ (m := m) (κ := κ) (c := c) (f := fun l => stageStart c l s.succ.succ (parity (s.val + 1)))
    (A := fun l => iprop(IdleAt m c l (s.val + 1) ∗ stTok c l s.succ)) (B := fun l => BusyAt m c l s.succ) fun l => step_stage l s.succ
  have h2 := Step.lanes (m := m) (κ := κ) (c := c) (I := fun l => Ow c (54 - 4 * s.val - l)) (fun l => step_rsLane s l)
  simp only [bigSep_sep'] at h1 h2
  unfold rsHop rsCarry
  rw [f7_cast, f7_succ]
  iintro ⟨#HR, ⟨Ht, Hn⟩, ⟨HB, HI⟩, HO⟩ Hk
  iapply (h1 _ Φ) $$ [Ht HI]
  · isplitr; · iexact HR
    isplitl [HI] <;> iassumption
  iintro HB'
  iapply (h2 _ Φ) $$ [Hn HB HO]
  · isplitr; · iexact HR
    isplitr [HO]
    · isplitl [Hn] <;> iassumption
    · iexact HO
  iintro ⟨⟨Hl, HI⟩, HO⟩
  iapply Hk
  isplitl [Hl]; · iexact Hl
  isplitr [HO]
  · isplitl [HB'] <;> iassumption
  · rw [show 54 - 4 * (s.val + 1) = 54 - 4 * s.val - 4 by omega]; iexact HO

/-- The waits for the reduce-scatter's sends. -/
theorem step_rsSends :
    Step m κ c iprop((bigSep Finset.univ fun l => bigSep Finset.univ fun s => iprop(crd c (.rem .rsS l s) ∗ pos c (.rem .rsS l s) 0)) ∗ Ow c 30)
      iprop((bigSep Finset.univ fun l => bigSep Finset.univ fun s => iprop(zero c (.rem .rsS l s) ∗ rsOut m c l s)) ∗ Ow c 30)
      (lanes fun l => hops7 (rsSendWait c l)) :=
  Step.lanes (I := fun _ => Ow c 30) fun l => Step.hops7 (I := fun _ => Ow c 30) fun s =>
    step_rsSendWait l s 30 fun i hi => level_local i (Nat.lt_of_lt_of_le hi (by decide))

/-- The waits for all the all-gather's sends: every lane gets back the rows that it sent. -/
theorem step_agSends :
    Step m κ c iprop((bigSep Finset.univ fun l => bigSep Finset.univ fun s => iprop(crd c (.rem .agS l s) ∗ pos c (.rem .agS l s) 0)) ∗ Ow c 2)
      iprop((bigSep Finset.univ fun l => bigSep Finset.univ fun s => iprop(zero c (.rem .agS l s) ∗ agOut m c l s)) ∗ Ow c 2)
      (lanes fun l => hops7 (agSendWait c l)) :=
  Step.lanes (I := fun _ => Ow c 2) fun l => Step.hops7 (I := fun _ => Ow c 2) fun s =>
    step_agSendWait l s 2 fun i hi => level_local i (Nat.lt_of_lt_of_le hi (by decide))

/-! ## All-gather -/

/-- A lane's normalisation: the residual's rows arrive, the rows are normalised and sent. -/
theorem step_normLane (l : Fin 4) :
    Step m κ c iprop((crd c (.res l) ∗ pos c (.res l) 0 ∗ kept c (rsdOwn c l) (qR l) (rsdOf m c) ∗ owns (c : Thread nD τ) (outSrc c l 7) fullShare (Sm m l 7 c) ∗ toAg c l 0)
        ∗ (owns (c : Thread nD τ) gamBuf fullShare (gamOf m c) ∗ Ow c (30 - l.val)))
      iprop((zero c (.res l) ∗ some' c (resSlot l) ∗ rsdSh m c (qR l) ∗ crd c (.rem .agS l 0)) ∗ (owns (c : Thread nD τ) gamBuf fullShare (gamOf m c) ∗ Ow c (30 - (l.val + 1))))
      (fun k => resWait c l (normRows c l (agSend0 c l k))) := fun K Φ => by
  obtain ⟨e1, e2⟩ := left_ag0 l
  have hs := step_agSend0 (m := m) (κ := κ) (c := c) l
  rw [e2, e1] at hs
  have hw := step_resWait (m := m) (κ := κ) (c := c) l (30 - l.val) fun i hi => level_local i (Nat.lt_of_lt_of_le hi (by omega))
  unfold payK at hw
  iintro ⟨#HR, ⟨Hc, Hp, Hkp, Ho, Ht⟩, Hg, HO⟩ Hk
  iapply (hw _ Φ) $$ [Hc Hp HO]
  · isplitr; · iexact HR
    isplitr [HO]
    · isplitl [Hc] <;> iassumption
    · iexact HO
  iintro ⟨⟨Hz, Hr, Hl⟩, HO⟩
  iapply (step_norm (m := m) (κ := κ) (c := c) l (Sm m l 7 c) (rsv m c l) (gamOf m c) _ Φ) $$ [Ho Hr Hg]
  · isplitr; · iexact HR
    isplitl [Ho]; · iexact Ho
    isplitl [Hr] <;> iassumption
  iintro ⟨Ho, Hr, Hg⟩
  iapply (hs _ Φ) $$ [Ho Ht HO]
  · isplitr; · iexact HR
    isplitr [HO]
    · isplitl [Ho]; · unfold Zv; iexact Ho
      iexact Ht
    · iexact HO
  iintro ⟨Hc, HO⟩
  iapply Hk
  isplitr [Hg HO]
  · isplitl [Hz]; · iexact Hz
    isplitl [Hr]; · iapply (some'_of c (resSlot l) _); iexact Hr
    isplitl [Hkp Hl]
    · unfold rsdSh; iapply (unlend c (rsdOwn c l) (qR l) (rsdOf m c)); isplitl [Hl] <;> iassumption
    · iexact Hc
  · isplitl [Hg] <;> iassumption

/-- What lane `l` needs at all-gather hop `s`; what it leaves. -/
def agNeed (c : Dev nD) (s : Fin 6) (l : Fin 4) : sProp 𝕄 :=
  iprop(crd c (.rem .agR l s.castSucc) ∗ pos c (.rem .agR l s.castSucc) 0 ∗ some' c (outSrc c l s.castSucc.castSucc) ∗ toAg c l s.succ)
variable (m) in
def agLeave (c : Dev nD) (s : Fin 6) (l : Fin 4) : sProp 𝕄 :=
  iprop(zero c (.rem .agR l s.castSucc) ∗ owns (c : Thread nD τ) (slotOf agBuf l s.castSucc) fullShare.left (Av m l s.val (frm l c)) ∗ crd c (.rem .agS l s.succ)
    ∗ owns (c : Thread nD τ) (outSrc c l s.castSucc.castSucc) fullShare (Av m l s.val (frm l c)))

/-- Holding a memref is holding its two halves. -/
theorem owns_halves (c : Dev nD) {sp : Space} {s : Shape} (M : Memref sig .tc sp s .f32) (X : s.Idx → Elt F .f32) :
    (owns (c : Thread nD τ) M fullShare X : sProp 𝕄) ⊢ iprop(owns (c : Thread nD τ) M fullShare.left X ∗ owns (c : Thread nD τ) M fullShare.right X) := by
  iintro H
  ihave ⟨%f, %hf, H⟩ := (owns_elim c M fullShare X) $$ H
  ihave ⟨H1, H2⟩ := ((pointsTo_share (PosShare.mem_left_op_right fullShare)).1) $$ H
  isplitl [H1]
  · iapply (owns_back c M fullShare.left X f hf); iexact H1
  · iapply (owns_back c M fullShare.right X f hf); iexact H2

/-- Two halves of the same elements, held at contents that may be written differently, make the whole, at the first contents. -/
theorem join_halves {ℓ : Loc nD τ sig} {I : Finset (Idx ℓ)} (f g : Buf (Elt F) ℓ) :
    iprop((ℓ ↦[I]{fullShare.left} f) ∗ (ℓ ↦[I]{fullShare.right} g)) ⊢ (ℓ ↦[I]{fullShare} f : sProp 𝕄) :=
  pure_elim _ pointsTo_agree fun h => by
    rw [pointsTo_congr (f := g) (g := f) fun i hi => ((h i (Finset.mem_inter.mpr ⟨hi, hi⟩)).1).symm]
    exact (pointsTo_share (PosShare.mem_left_op_right fullShare)).2

/-- Two halves of a piece make the piece, at some contents. -/
theorem some'_halves (c : Dev nD) {sp : Space} {s : Shape} (M : Memref sig .tc sp s .f32) (X Y : s.Idx → Elt F .f32) :
    iprop(owns (c : Thread nD τ) M fullShare.left X ∗ owns (c : Thread nD τ) M fullShare.right Y) ⊢ (some' c M : sProp 𝕄) := by
  iintro ⟨H1, H2⟩
  ihave ⟨%f, %hf, H1⟩ := (owns_elim c M fullShare.left X) $$ H1
  ihave ⟨%g, %hg, H2⟩ := (owns_elim c M fullShare.right Y) $$ H2
  iapply (some'_of c M X)
  iapply (owns_back c M fullShare X f hf)
  iapply (join_halves f g)
  isplitl [H1] <;> iassumption

/-- A lane's part of all-gather hop `s`: the rows arrive, are passed on, and copied into the output. -/
theorem step_agLane (s : Fin 6) (l : Fin 4) :
    Step m κ c iprop(agNeed c s l ∗ Ow c (26 - 4 * s.val - l.val))
      iprop(agLeave m c s l ∗ Ow c (26 - 4 * s.val - (l.val + 1)))
      (fun k => agRecvWait c l s.castSucc (agSend c l s (copyRows c l s.castSucc k))) := fun K Φ => by
  obtain ⟨e1, e2, e3⟩ := left_ag l s
  have hs := step_agSend (m := m) (κ := κ) (c := c) l s
  rw [e2, e1] at hs
  have hw := step_agRecvWait (m := m) (κ := κ) (c := c) l s.castSucc (26 - 4 * s.val - l.val) (by rw [e3]; exact level_ag l s.castSucc)
  unfold payK at hw
  unfold agNeed agLeave
  iintro ⟨#HR, ⟨Hc, Hp, Ho, Ht⟩, HO⟩ Hk
  iapply (hw _ Φ) $$ [Hc Hp HO]
  · isplitr; · iexact HR
    isplitr [HO]
    · isplitl [Hc] <;> iassumption
    · iexact HO
  iintro ⟨⟨Hz, Hx⟩, HO⟩
  ihave ⟨Hx, Hy⟩ := (owns_halves c (slotOf agBuf l s.castSucc) _) $$ Hx
  iapply (hs _ Φ) $$ [Hy Ht HO]
  · isplitr; · iexact HR
    isplitr [HO]
    · isplitl [Hy]; · iexact Hy
      iexact Ht
    · iexact HO
  iintro ⟨Hc, HO⟩
  iapply (step_rows (m := m) (κ := κ) (c := c) l s.castSucc fullShare.left (Av m l s.val (frm l c)) _ Φ) $$ [Hx Ho]
  · isplitr; · iexact HR
    isplitl [Hx]; · iexact Hx
    iexact Ho
  iintro ⟨Hx, Ho⟩
  iapply Hk
  isplitr [HO]
  · isplitl [Hz]; · iexact Hz
    isplitl [Hx]; · iexact Hx
    isplitl [Hc]; · iexact Hc
    iexact Ho
  · iexact HO

/-- A hop of the all-gather but the last. -/
theorem step_agHop (s : Fin 6) :
    Step m κ c iprop((bigSep Finset.univ (agNeed c s)) ∗ Ow c (26 - 4 * s.val)) iprop((bigSep Finset.univ (agLeave m c s)) ∗ Ow c (26 - 4 * (s.val + 1))) (agHop c s) := by
  have h := Step.lanes (m := m) (κ := κ) (c := c) (I := fun l => Ow c (26 - 4 * s.val - l)) (fun l => step_agLane s l)
  rw [show 26 - 4 * (s.val + 1) = 26 - 4 * s.val - 4 by omega]
  exact h

/-- A lane's last all-gather hop. -/
theorem step_agLast (l : Fin 4) :
    Step m κ c iprop((crd c (.rem .agR l 6) ∗ pos c (.rem .agR l 6) 0 ∗ some' c (outSrc c l 6)) ∗ Ow c 2)
      iprop((zero c (.rem .agR l 6) ∗ some' c (slotOf agBuf l 6) ∗ owns (c : Thread nD τ) (outSrc c l 6) fullShare (Av m l 6 (frm l c))) ∗ Ow c 2)
      (fun k => agRecvWait c l 6 (copyRows c l 6 k)) := fun K Φ => by
  have hw := step_agRecvWait (m := m) (κ := κ) (c := c) l 6 2 level_ag6
  unfold payK at hw
  iintro ⟨#HR, ⟨Hc, Hp, Ho⟩, HO⟩ Hk
  iapply (hw _ Φ) $$ [Hc Hp HO]
  · isplitr; · iexact HR
    isplitr [HO]
    · isplitl [Hc] <;> iassumption
    · iexact HO
  iintro ⟨⟨Hz, Hx⟩, HO⟩
  iapply (step_rows (m := m) (κ := κ) (c := c) l 6 fullShare (Av m l 6 (frm l c)) _ Φ) $$ [Hx Ho]
  · isplitr; · iexact HR
    isplitl [Hx]; · iexact Hx
    iexact Ho
  iintro ⟨Hx, Ho⟩
  iapply Hk
  isplitr [HO]
  · isplitl [Hz]; · iexact Hz
    isplitl [Hx]; · iapply (some'_of c (slotOf agBuf l 6) _); iexact Hx
    iexact Ho
  · iexact HO

end Cert.KernelIdeal.RingProof

end
-- ==== Proof.RingPieces.lean ====
/-
# The buffers in pieces

Each scratch is its slots, the staging copy of the own chunk its four row blocks, the output its thirty-two row blocks (four
lanes of eight chunks, counted from the device's own place in the ring).  A buffer held whole is its pieces held, and back.
-/
module

public import proofs.«01_k».proof.Proof.RingOps

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Pieces by a key -/

section Key

/-- Sets whose members have the set's own key are disjoint. -/
theorem set_disjoint {ι T : Type} [DecidableEq ι] (I : T → Finset ι) (key : ι → T) (hI : ∀ t i, i ∈ I t ↔ key i = t) : ∀ t t', t ≠ t' → Disjoint (I t) (I t') := fun t t' h =>
  Finset.disjoint_left.mpr fun i hi hi' => h (((hI t i).mp hi).symm.trans ((hI t' i).mp hi'))
/-- Sets that hold all members of their key cover everything. -/
theorem set_cover {ι T : Type} [DecidableEq ι] [Fintype ι] [Fintype T] (I : T → Finset ι) (key : ι → T) (hI : ∀ t i, i ∈ I t ↔ key i = t) : Finset.univ.biUnion I = Finset.univ :=
  Finset.eq_univ_iff_forall.mpr fun i => Finset.mem_biUnion.mpr ⟨key i, Finset.mem_univ _, (hI _ i).mpr rfl⟩

variable {ℓ : Loc nD τ sig} {T : Type} [Fintype T] [DecidableEq T] (I : T → Finset (Idx ℓ)) (key : Idx ℓ → T) (hI : ∀ t i, i ∈ I t ↔ key i = t)
include hI

/-- A buffer held whole is its pieces held; -/
theorem key_split (f : Buf (Elt F) ℓ) : (ℓ ↦{fullShare} f : sProp 𝕄) = bigSep Finset.univ fun t => ℓ ↦[I t]{fullShare} f :=
  Ring.pointsTo_blocks I (set_disjoint I key hI) (set_cover I key hI) f
/-- and back, whatever the pieces hold. -/
theorem key_join (f₀ : Buf (Elt F) ℓ) : (bigSep Finset.univ fun t => iprop(∃ f, ℓ ↦[I t]{fullShare} f)) ⊢ (iprop(∃ g, ℓ ↦{fullShare} g) : sProp 𝕄) :=
  Ring.pointsTo_blocks_join_exists I (set_disjoint I key hI) (set_cover I key hI) f₀

end Key

/-! ## Which rows a piece has -/

/-- An index lies in the landing slot that its first two coordinates name. -/
theorem mem_slot (l : Fin 4) (s : Fin 7) (i : S4x7x64x2048.Idx) : i ∈ (slotRect l s).set ↔ ((⟨(i 0).val, (i 0).isLt⟩, ⟨(i 1).val, (i 1).isLt⟩) : Fin 4 × Fin 7) = (l, s) := by
  rw [Rect.mem_set_unit]
  constructor
  · intro h
    have h0 := h 0; have h1 := h 1
    simp [S1x1x64x2048] at h0 h1
    exact Prod.ext (Fin.ext (by simp; omega)) (Fin.ext (by simp; omega))
  · intro h a
    have h0 : (i 0).val = l.val := congrArg (fun p : Fin 4 × Fin 7 => p.1.val) h
    have h1 : (i 1).val = s.val := congrArg (fun p : Fin 4 × Fin 7 => p.2.val) h
    have h2 : (i 2).val < 64 := (i 2).isLt
    have h3 : (i 3).val < 2048 := (i 3).isLt
    fin_cases a <;> simp [S1x1x64x2048] <;> omega

/-- An index lies in the staging slot that its first two coordinates name. -/
theorem mem_acc (l : Fin 4) (b : Fin 2) (i : S4x2x64x2048.Idx) : i ∈ (accRect l b).set ↔ ((⟨(i 0).val, (i 0).isLt⟩, ⟨(i 1).val, (i 1).isLt⟩) : Fin 4 × Fin 2) = (l, b) := by
  rw [Rect.mem_set_unit]
  constructor
  · intro h
    have h0 := h 0; have h1 := h 1
    simp [S1x1x64x2048] at h0 h1
    exact Prod.ext (Fin.ext (by simp; omega)) (Fin.ext (by simp; omega))
  · intro h a
    have h0 : (i 0).val = l.val := congrArg (fun p : Fin 4 × Fin 2 => p.1.val) h
    have h1 : (i 1).val = b.val := congrArg (fun p : Fin 4 × Fin 2 => p.2.val) h
    have h2 : (i 2).val < 64 := (i 2).isLt
    have h3 : (i 3).val < 2048 := (i 3).isLt
    fin_cases a <;> simp [S1x1x64x2048] <;> omega

/-- An index lies in the residual slot that its first coordinate names. -/
theorem mem_res (l : Fin 4) (i : S4x64x2048.Idx) : i ∈ (resRect l).set ↔ (⟨(i 0).val, (i 0).isLt⟩ : Fin 4) = l := by
  rw [Rect.mem_set_unit]
  constructor
  · intro h
    have h0 := h 0
    simp [S1x64x2048] at h0
    exact Fin.ext (by simp; omega)
  · intro h a
    have h0 : (i 0).val = l.val := congrArg Fin.val h
    have h2 : (i 1).val < 64 := (i 1).isLt
    have h3 : (i 2).val < 2048 := (i 2).isLt
    fin_cases a <;> simp [S1x64x2048] <;> omega

abbrev stageRect (l : Fin 4) : Rect S256x2048 := Rect.unit (s := S256x2048) ![64 * l.val, 0] S64x2048.size (inb_stage l)

/-- An index lies in the lane's part of the own chunk that its row names. -/
theorem mem_stage (l : Fin 4) (i : S256x2048.Idx) : i ∈ (stageRect l).set ↔ (⟨(i 0).val / 64, by have : (i 0).val < 256 := (i 0).isLt; omega⟩ : Fin 4) = l := by
  rw [Rect.mem_set_unit]
  constructor
  · intro h
    have h0 := h 0
    simp [S64x2048] at h0
    exact Fin.ext (by simp; omega)
  · intro h a
    have h0 : (i 0).val / 64 = l.val := congrArg Fin.val h
    have h3 : (i 1).val < 2048 := (i 1).isLt
    fin_cases a <;> simp [S64x2048] <;> omega

/-! ## The scratches -/

/-- Elements held at known contents are held at some contents. -/
theorem some'_intro (c : Dev nD) {sp : Space} {s : Shape} (M : Memref sig .tc sp s .f32) (f : Buf (Elt F) (M.view.loc (c : Thread nD τ))) :
    (M.view.loc (c : Thread nD τ) ↦[M.view.set]{fullShare} f : sProp 𝕄) ⊢ some' c M := by
  unfold some'
  iintro H
  iexists M.view.read (Elt F) f
  iapply (owns_intro (c : Thread nD τ) M fullShare f)
  iexact H

/-- The elements of a landing slot of the reduce-scatter. -/
theorem rs_set (l : Fin 4) (s : Fin 7) : (slotOf rsBuf l s).view.set = (slotRect l s).set := by
  show (((View.whole cc0_scratch0).slice (slotRect l s)).reshape _ _).set = _
  rw [View.set_reshape, View.set_slice_whole]
/-- The reduce-scatter's landing buffer as its slots. -/
theorem rs_split (c : Dev nD) (f : Buf (Elt F) ((c : Thread nD τ).loc cc0_scratch0)) :
    ((c : Thread nD τ).loc cc0_scratch0 ↦{fullShare} f : sProp 𝕄) ⊢ bigSep Finset.univ fun l => bigSep Finset.univ fun s => some' c (slotOf rsBuf l s) := by
  rw [key_split (F := F) (ℓ := (c : Thread nD τ).loc cc0_scratch0) (fun p : Fin 4 × Fin 7 => (slotRect p.1 p.2).set) _ (fun p i => mem_slot p.1 p.2 i) f, bigSep_univ_prod]
  exact bigSep_mono fun l _ => bigSep_mono fun s _ => by
    rw [← rs_set]; exact some'_intro c (slotOf rsBuf l s) f
/-- The slots make the reduce-scatter's landing buffer again. -/
theorem rs_join (c : Dev nD) (f₀ : Buf (Elt F) ((c : Thread nD τ).loc cc0_scratch0)) :
    (bigSep Finset.univ fun l => bigSep Finset.univ fun s => some' c (slotOf rsBuf l s)) ⊢ (iprop(∃ g : Buf (Elt F) ((c : Thread nD τ).loc cc0_scratch0), (c : Thread nD τ).loc cc0_scratch0 ↦{fullShare} g) : sProp 𝕄) := by
  refine .trans ?_ (key_join (F := F) (ℓ := (c : Thread nD τ).loc cc0_scratch0) (fun p : Fin 4 × Fin 7 => (slotRect p.1 p.2).set) _ (fun p i => mem_slot p.1 p.2 i) f₀)
  rw [bigSep_univ_prod]
  exact bigSep_mono fun l _ => bigSep_mono fun s _ => by
    rw [← rs_set]; exact some'_elim c (slotOf rsBuf l s)

/-- The elements of a landing slot of the all-gather. -/
theorem ag_set (l : Fin 4) (s : Fin 7) : (slotOf agBuf l s).view.set = (slotRect l s).set := by
  show (((View.whole cc0_scratch1).slice (slotRect l s)).reshape _ _).set = _
  rw [View.set_reshape, View.set_slice_whole]
/-- The all-gather's landing buffer as its slots. -/
theorem ag_split (c : Dev nD) (f : Buf (Elt F) ((c : Thread nD τ).loc cc0_scratch1)) :
    ((c : Thread nD τ).loc cc0_scratch1 ↦{fullShare} f : sProp 𝕄) ⊢ bigSep Finset.univ fun l => bigSep Finset.univ fun s => some' c (slotOf agBuf l s) := by
  rw [key_split (F := F) (ℓ := (c : Thread nD τ).loc cc0_scratch1) (fun p : Fin 4 × Fin 7 => (slotRect p.1 p.2).set) _ (fun p i => mem_slot p.1 p.2 i) f, bigSep_univ_prod]
  exact bigSep_mono fun l _ => bigSep_mono fun s _ => by
    rw [← ag_set]; exact some'_intro c (slotOf agBuf l s) f
/-- The slots make the all-gather's landing buffer again. -/
theorem ag_join (c : Dev nD) (f₀ : Buf (Elt F) ((c : Thread nD τ).loc cc0_scratch1)) :
    (bigSep Finset.univ fun l => bigSep Finset.univ fun s => some' c (slotOf agBuf l s)) ⊢ (iprop(∃ g : Buf (Elt F) ((c : Thread nD τ).loc cc0_scratch1), (c : Thread nD τ).loc cc0_scratch1 ↦{fullShare} g) : sProp 𝕄) := by
  refine .trans ?_ (key_join (F := F) (ℓ := (c : Thread nD τ).loc cc0_scratch1) (fun p : Fin 4 × Fin 7 => (slotRect p.1 p.2).set) _ (fun p i => mem_slot p.1 p.2 i) f₀)
  rw [bigSep_univ_prod]
  exact bigSep_mono fun l _ => bigSep_mono fun s _ => by
    rw [← ag_set]; exact some'_elim c (slotOf agBuf l s)

/-- The elements of a staging slot. -/
theorem acc_set (l : Fin 4) (s : Fin 2) : (accSlot l s).view.set = (accRect l s).set := by
  show (((View.whole cc0_scratch3).slice (accRect l s)).reshape _ _).set = _
  rw [View.set_reshape, View.set_slice_whole]
/-- The staging buffer as its slots. -/
theorem acc_split (c : Dev nD) (f : Buf (Elt F) ((c : Thread nD τ).loc cc0_scratch3)) :
    ((c : Thread nD τ).loc cc0_scratch3 ↦{fullShare} f : sProp 𝕄) ⊢ bigSep Finset.univ fun l => bigSep Finset.univ fun s => some' c (accSlot l s) := by
  rw [key_split (F := F) (ℓ := (c : Thread nD τ).loc cc0_scratch3) (fun p : Fin 4 × Fin 2 => (accRect p.1 p.2).set) _ (fun p i => mem_acc p.1 p.2 i) f, bigSep_univ_prod]
  exact bigSep_mono fun l _ => bigSep_mono fun s _ => by
    rw [← acc_set]; exact some'_intro c (accSlot l s) f
/-- The slots make the staging buffer again. -/
theorem acc_join (c : Dev nD) (f₀ : Buf (Elt F) ((c : Thread nD τ).loc cc0_scratch3)) :
    (bigSep Finset.univ fun l => bigSep Finset.univ fun s => some' c (accSlot l s)) ⊢ (iprop(∃ g : Buf (Elt F) ((c : Thread nD τ).loc cc0_scratch3), (c : Thread nD τ).loc cc0_scratch3 ↦{fullShare} g) : sProp 𝕄) := by
  refine .trans ?_ (key_join (F := F) (ℓ := (c : Thread nD τ).loc cc0_scratch3) (fun p : Fin 4 × Fin 2 => (accRect p.1 p.2).set) _ (fun p i => mem_acc p.1 p.2 i) f₀)
  rw [bigSep_univ_prod]
  exact bigSep_mono fun l _ => bigSep_mono fun s _ => by
    rw [← acc_set]; exact some'_elim c (accSlot l s)

/-- The elements of a residual slot. -/
theorem res_set (l : Fin 4) : (resSlot l).view.set = (resRect l).set := by
  show (((View.whole cc0_scratch4).slice (resRect l)).reshape _ _).set = _
  rw [View.set_reshape, View.set_slice_whole]
/-- The residual's staging buffer as its slots. -/
theorem res_split (c : Dev nD) (f : Buf (Elt F) ((c : Thread nD τ).loc cc0_scratch4)) :
    ((c : Thread nD τ).loc cc0_scratch4 ↦{fullShare} f : sProp 𝕄) ⊢ bigSep Finset.univ fun l => some' c (resSlot l) := by
  rw [key_split (F := F) (ℓ := (c : Thread nD τ).loc cc0_scratch4) (fun l : Fin 4 => (resRect l).set) _ mem_res f]
  exact bigSep_mono fun l _ => by
    rw [← res_set]; exact some'_intro c (resSlot l) f
/-- The slots make the residual's staging buffer again. -/
theorem res_join (c : Dev nD) (f₀ : Buf (Elt F) ((c : Thread nD τ).loc cc0_scratch4)) :
    (bigSep Finset.univ fun l => some' c (resSlot l)) ⊢ (iprop(∃ g : Buf (Elt F) ((c : Thread nD τ).loc cc0_scratch4), (c : Thread nD τ).loc cc0_scratch4 ↦{fullShare} g) : sProp 𝕄) := by
  refine .trans ?_ (key_join (F := F) (ℓ := (c : Thread nD τ).loc cc0_scratch4) (fun l : Fin 4 => (resRect l).set) _ mem_res f₀)
  exact bigSep_mono fun l _ => by rw [← res_set]; exact some'_elim c (resSlot l)

/-- The own chunk, staged, is its four row blocks. -/
theorem stage_split (c : Dev nD) (X : FVec F S256x2048 .f32) :
    (owns (c : Thread nD τ) stageBuf fullShare X : sProp 𝕄) ⊢ bigSep Finset.univ fun l => owns (c : Thread nD τ) (stageSlot l) fullShare ((stageSlot l).view.read (Elt F) X) :=
  owns_rects (Val := Elt F) (c : Thread nD τ) stageBuf fullShare stageRect (fun _ _ => rfl) (set_disjoint (fun l => (stageRect l).set) _ mem_stage) (set_cover (fun l => (stageRect l).set) _ mem_stage) X

/-- The elements of a lane's part of the own chunk. -/
theorem stage_set (l : Fin 4) : (stageSlot l).view.set = (stageRect l).set := by
  show ((View.whole cc0_scratch2).slice (stageRect l)).set = _
  rw [View.set_slice_whole]
/-- The lanes' parts make the own chunk's buffer again. -/
theorem stage_join (c : Dev nD) (f₀ : Buf (Elt F) ((c : Thread nD τ).loc cc0_scratch2)) :
    (bigSep Finset.univ fun l => some' c (stageSlot l)) ⊢ (iprop(∃ g : Buf (Elt F) ((c : Thread nD τ).loc cc0_scratch2), (c : Thread nD τ).loc cc0_scratch2 ↦{fullShare} g) : sProp 𝕄) := by
  refine .trans ?_ (key_join (F := F) (ℓ := (c : Thread nD τ).loc cc0_scratch2) (fun l : Fin 4 => (stageRect l).set) _ mem_stage f₀)
  exact bigSep_mono fun l _ => by rw [← stage_set]; exact some'_elim c (stageSlot l)

/-! ## The output -/

/-- The chunk lane `l` of device `c` is at after `n` hops. -/
def chunkOf (c : Dev nD) (l : Fin 4) (n : Fin 8) : Fin 8 := if l.val < 2 then h8 (c.val + 8 - n.val) else h8 (c.val + n.val)
/-- After how many hops lane `l` of device `c` is at the chunk. -/
def hopOf (c : Dev nD) (l : Fin 4) (k : Fin 8) : Fin 8 := if l.val < 2 then h8 (c.val + 8 - k.val) else h8 (k.val + 8 - c.val)
/-- The hop at which a lane meets the chunk of hop `n` is `n`. -/
theorem hopOf_chunkOf : ∀ (c : Dev nD) (l : Fin 4) (n : Fin 8), hopOf c l (chunkOf c l n) = n := by decide +kernel
/-- The chunk met at the hop of chunk `k` is `k`. -/
theorem chunkOf_hopOf : ∀ (c : Dev nD) (l : Fin 4) (k : Fin 8), chunkOf c l (hopOf c l k) = k := by decide +kernel

/-- The offset of a lane's rows in the result: 256 rows to a chunk, 64 to a lane. -/
theorem off3_val : ∀ (c : Dev nD) (l : Fin 4) (n : Fin 8), k0_off3 c (hopW l n.val) 16#32 (rowW l) = ![256 * (chunkOf c l n).val + 64 * l.val, 0] := by
  decide +kernel

/-- The lane and the chunk of a row of the output. -/
def laneAt (i : S2048x2048.Idx) : Fin 4 := ⟨(i 0).val / 64 % 4, Nat.mod_lt _ (by decide)⟩
def chunkAt (i : S2048x2048.Idx) : Fin 8 := ⟨(i 0).val / 256, by have : (i 0).val < 2048 := (i 0).isLt; omega⟩
/-- The place of an element within its row block. -/
def inBlk (i : S2048x2048.Idx) : S64x2048.Idx := fun a => match a with
  | ⟨0, _⟩ => ⟨(i 0).val % 64, Nat.mod_lt _ (by decide)⟩
  | ⟨1, _⟩ => ⟨(i 1).val, (i 1).isLt⟩

abbrev outRectA (c : Dev nD) (p : Fin 4 × Fin 8) : Rect S2048x2048 :=
  Rect.unit (s := S2048x2048) (k0_off3 c (hopW p.1 p.2.val) 16#32 (rowW p.1)) S64x2048.size (inb_row3 c p.1 p.2)

/-- An index of the result lies in the block of its lane and of the hop at which its chunk is met. -/
theorem mem_out (c : Dev nD) (p : Fin 4 × Fin 8) (i : S2048x2048.Idx) : i ∈ (outRectA c p).set ↔ ((laneAt i, hopOf c (laneAt i) (chunkAt i)) : Fin 4 × Fin 8) = p := by
  obtain ⟨l, n⟩ := p
  rw [Rect.mem_set_unit]
  simp only [off3_val]
  have hl := l.isLt; have hc := (chunkOf c l n).isLt
  constructor
  · intro h
    have h0 := h 0
    simp [S64x2048] at h0
    have e1 : laneAt i = l := Fin.ext (by unfold laneAt; simp; omega)
    have e2 : chunkAt i = chunkOf c l n := Fin.ext (by unfold chunkAt; simp; omega)
    rw [e1, e2, hopOf_chunkOf]
  · intro h a
    have e1 : laneAt i = l := congrArg Prod.fst h
    have e2 : hopOf c (laneAt i) (chunkAt i) = n := congrArg Prod.snd h
    rw [e1] at e2
    have e3 : chunkAt i = chunkOf c l n := by rw [← e2, chunkOf_hopOf]
    have h0 : (i 0).val / 64 % 4 = l.val := congrArg Fin.val e1
    have h1 : (i 0).val / 256 = (chunkOf c l n).val := congrArg Fin.val e3
    have h3 : (i 1).val < 2048 := (i 1).isLt
    fin_cases a <;> simp [S64x2048] <;> omega

/-- The result buffer as the blocks of the lanes and hops. -/
theorem out_split (c : Dev nD) (X : FVec F S2048x2048 .f32) :
    (owns (c : Thread nD τ) outBuf fullShare X : sProp 𝕄) ⊢ bigSep Finset.univ fun l => bigSep Finset.univ fun n => some' c (outSrc c l n) := by
  refine (owns_rects (Val := Elt F) (c : Thread nD τ) outBuf fullShare (outRectA c) (fun _ _ => rfl) (set_disjoint (fun p => (outRectA c p).set) _ (mem_out c)) (set_cover (fun p => (outRectA c p).set) _ (mem_out c)) X).trans ?_
  rw [bigSep_univ_prod]
  exact bigSep_mono fun l _ => bigSep_mono fun n _ => some'_of c (outSrc c l n) _

/-- The device that finishes lane `l`'s rows of chunk `k`. -/
def maker (l : Fin 4) (k : Fin 8) : Dev nD := if l.val < 2 then ⟨(k.val + 7) % 8, Nat.mod_lt _ (by decide)⟩ else ⟨(k.val + 1) % 8, Nat.mod_lt _ (by decide)⟩

variable (m : (ℓ : Loc nD τ sig) → Buf (Elt F) ℓ)

/-- The kernel's result: each row block as its maker finished it. -/
def outV : FVec F S2048x2048 .f32 := fun i => Zv m (laneAt i) (maker (laneAt i) (chunkAt i)) (inBlk i)

/-- The rows sent at hop `t` of the all-gather were made `t` devices back. -/
theorem Av_iter (l : Fin 4) : ∀ (t : ℕ) (c : Dev nD), Av m l t c = Zv m l ((frm l)^[t] c)
  | 0, _ => rfl
  | t + 1, c => Av_iter l t (frm l c)

/-- The rows that arrive at a hop of the all-gather were made by the maker of their chunk. -/
theorem maker_hop : ∀ (c : Dev nD) (l : Fin 4) (s : Fin 7), (frm l)^[s.val] (frm l c) = maker l (chunkOf c l s.castSucc) := by decide +kernel
/-- A device is the maker of the chunk that it finishes. -/
theorem maker_own : ∀ (c : Dev nD) (l : Fin 4), c = maker l (chunkOf c l 7) := by decide +kernel

/-- The result on a row block. -/
theorem outV_blk (c : Dev nD) (l : Fin 4) (n : Fin 8) : (fun j => outV m ((outRectA c (l, n)).emb j)) = Zv m l (maker l (chunkOf c l n)) := by
  funext j
  have hj0 : (j 0).val < 64 := (j 0).isLt
  have hj1 : (j 1).val < 2048 := (j 1).isLt
  have hl := l.isLt; have hc := (chunkOf c l n).isLt
  have e0 : (((outRectA c (l, n)).emb j) 0).val = 256 * (chunkOf c l n).val + 64 * l.val + (j 0).val := by
    show (k0_off3 c (hopW l n.val) 16#32 (rowW l)) 0 + 1 * (j 0).val = _
    rw [off3_val]; simp
  have e1 : (((outRectA c (l, n)).emb j) 1).val = (j 1).val := by
    show (k0_off3 c (hopW l n.val) 16#32 (rowW l)) 1 + 1 * (j 1).val = _
    rw [off3_val]; simp
  have el : laneAt ((outRectA c (l, n)).emb j) = l := Fin.ext (by unfold laneAt; simp only [e0]; omega)
  have ec : chunkAt ((outRectA c (l, n)).emb j) = chunkOf c l n := Fin.ext (by unfold chunkAt; simp only [e0]; omega)
  have ei : inBlk ((outRectA c (l, n)).emb j) = j := by
    funext a
    fin_cases a
    · exact Fin.ext (by show (((outRectA c (l, n)).emb j) 0).val % 64 = _; rw [e0]; simp; omega)
    · exact Fin.ext e1
  unfold outV
  rw [el, ec, ei]

/-- Eight resources, written out. -/
theorem bigSep_fin8 (f : Fin 8 → sProp 𝕄) : bigSep Finset.univ f = iprop(f 0 ∗ f 1 ∗ f 2 ∗ f 3 ∗ f 4 ∗ f 5 ∗ f 6 ∗ f 7) := by
  rw [bigSep_univ_eq_bigSepL [0, 1, 2, 3, 4, 5, 6, 7] (by decide) (by decide)]; rfl

/-- The finished row blocks make the result. -/
theorem out_join (c : Dev nD) :
    iprop((bigSep Finset.univ fun l => bigSep Finset.univ fun s : Fin 7 => owns (c : Thread nD τ) (outSrc c l s.castSucc) fullShare (Av m l s.val (frm l c)))
      ∗ bigSep Finset.univ fun l => owns (c : Thread nD τ) (outSrc c l 7) fullShare (Zv m l c)) ⊢ (owns (c : Thread nD τ) outBuf fullShare (outV m) : sProp 𝕄) := by
  have : ∀ e, Nonempty (Elt F e) := fun e => inferInstance
  refine .trans ?_ (owns_of_rects (Val := Elt F) (c : Thread nD τ) outBuf fullShare (outRectA c) (fun _ _ => rfl) (set_disjoint (fun p => (outRectA c p).set) _ (mem_out c)) (set_cover (fun p => (outRectA c p).set) _ (mem_out c)) (outV m))
  rw [bigSep_univ_prod, ← bigSep_sep']
  refine bigSep_mono fun l _ => ?_
  rw [show (bigSep Finset.univ fun n : Fin 8 => owns (c : Thread nD τ) (outBuf.slice (outRectA c (l, n)) (fun _ => rfl)) fullShare (fun j => outV m ((outRectA c (l, n)).emb j)) : sProp 𝕄)
      = bigSep Finset.univ fun n : Fin 8 => owns (c : Thread nD τ) (outSrc c l n) fullShare (Zv m l (maker l (chunkOf c l n))) from bigSep_congr fun n _ => by rw [outV_blk],
    bigSep_fin8, bigSep_fin7]
  simp only [Av_iter, maker_hop]
  rw [show Zv m l c = Zv m l (maker l (chunkOf c l 7)) from congrArg _ (maker_own c l)]
  change iprop(_ ∗ _) ⊢ (iprop(_ ∗ _) : sProp 𝕄)
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.RingProof

end
-- ==== Proof.RingDevice.lean ====
/-
# A device's whole run

From what a device starts with (its buffers, its shares of the inputs, the tokens of the payments it makes, its positions and
its credits) to what it ends with: the same buffers, the result in the output, every cell's counter back at zero.
-/
module

public import proofs.«01_k».proof.Proof.RingBody
public import proofs.«01_k».proof.Proof.RingPieces

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Dev nD × Kd → ℕ} {c : Dev nD}

/-- One for each lane and hop. -/
abbrev LS (f : Fin 4 → Fin 7 → sProp 𝕄) : sProp 𝕄 := bigSep Finset.univ fun l => bigSep Finset.univ fun s => f l s
/-- One for each hop but the last (or the first), and lane. -/
abbrev SL6 (f : Fin 6 → Fin 4 → sProp 𝕄) : sProp 𝕄 := bigSep Finset.univ fun s => bigSep Finset.univ fun l => f s l
/-- One for each lane. -/
abbrev L4 (f : Fin 4 → sProp 𝕄) : sProp 𝕄 := bigSep Finset.univ fun l => f l

/-- A family over lanes and hops: the first hop's members and the later hops'. -/
theorem LS_succ (f : Fin 4 → Fin 7 → sProp 𝕄) : LS f = iprop(L4 (fun l => f l 0) ∗ SL6 fun s l => f l s.succ) := by
  unfold LS SL6 L4
  rw [swap fun (s : Fin 6) (l : Fin 4) => f l s.succ, ← bigSep_sep']
  exact bigSep_congr fun l _ => fin7_succ (f l)
/-- A family over lanes and hops: the first six hops' members and the last hop's. -/
theorem LS_cast (f : Fin 4 → Fin 7 → sProp 𝕄) : LS f = iprop((SL6 fun s l => f l s.castSucc) ∗ L4 (fun l => f l 6)) := by
  unfold LS SL6 L4
  rw [swap fun (s : Fin 6) (l : Fin 4) => f l s.castSucc, ← bigSep_sep']
  exact bigSep_congr fun l _ => fin7_cast (f l)

/-- What the six middle hops of the reduce-scatter need, sorted by kind. -/
theorem SL6_need (c : Dev nD) : (SL6 (F := F) fun s l => rsNeed c s l)
    = iprop((SL6 fun s l => crd c (.rem .rsR l s.castSucc)) ∗ (SL6 fun s l => pos c (.rem .rsR l s.castSucc) 0) ∗ (SL6 fun s l => some' c (outSrc c l s.castSucc.succ)) ∗ SL6 fun s l => toRs c l s.succ) := by
  unfold rsNeed SL6; simp only [bigSep_sep']
/-- What the six middle hops of the reduce-scatter leave, sorted by kind. -/
theorem SL6_leave (c : Dev nD) : (SL6 (F := F) fun s l => rsLeave c s l)
    = iprop((SL6 fun s l => zero c (.rem .rsR l s.castSucc)) ∗ (SL6 fun s l => some' c (slotOf rsBuf l s.castSucc)) ∗ SL6 fun s l => crd c (.rem .rsS l s.succ)) := by
  unfold rsLeave SL6; simp only [bigSep_sep']
/-- What the six middle hops of the all-gather need, sorted by kind. -/
theorem SL6_agNeed (c : Dev nD) : (SL6 (F := F) fun s l => agNeed c s l)
    = iprop((SL6 fun s l => crd c (.rem .agR l s.castSucc)) ∗ (SL6 fun s l => pos c (.rem .agR l s.castSucc) 0) ∗ (SL6 fun s l => some' c (outSrc c l s.castSucc.castSucc)) ∗ SL6 fun s l => toAg c l s.succ) := by
  unfold agNeed SL6; simp only [bigSep_sep']
/-- What the six middle hops of the all-gather leave, sorted by kind. -/
theorem SL6_agLeave (c : Dev nD) : (SL6 (F := F) fun s l => agLeave m c s l)
    = iprop((SL6 fun s l => zero c (.rem .agR l s.castSucc)) ∗ (SL6 fun s l => owns (c : Thread nD τ) (slotOf agBuf l s.castSucc) fullShare.left (Av m l s.val (frm l c)))
      ∗ (SL6 fun s l => crd c (.rem .agS l s.succ)) ∗ SL6 fun s l => owns (c : Thread nD τ) (outSrc c l s.castSucc.castSucc) fullShare (Av m l s.val (frm l c))) := by
  unfold agLeave SL6; simp only [bigSep_sep']

/-- A device's landing slots are what it hands its neighbours at the barrier. -/
theorem own_slots (c : Dev nD) :
    iprop((LS fun l s => some' c (slotOf rsBuf l s)) ∗ LS fun l s => some' c (slotOf agBuf l s)) ⊢ (iprop(payK m (lft c) .bar 0 true ∗ payK m (rgt c) .bar 0 false) : sProp 𝕄) := by
  show iprop((LS fun l s => some' c (slotOf rsBuf l s)) ∗ LS fun l s => some' c (slotOf agBuf l s)) ⊢ (iprop((land 0 (lft c) ∗ land 1 (lft c)) ∗ (land 2 (rgt c) ∗ land 3 (rgt c))) : sProp 𝕄)
  unfold land LS
  rw [peer_lo 0 (lft c) (by decide), peer_lo 1 (lft c) (by decide), peer_hi 2 (rgt c) (by decide), peer_hi 3 (rgt c) (by decide), rgt_lft, lft_rgt, bigSep_fin4, bigSep_fin4]
  simp only [bigSep_sep']
  iintro ⟨⟨H0, H1, H2, H3⟩, K0, K1, K2, K3⟩
  isplitl [H0 H1 K0 K1]
  · isplitl [H0 K0]
    · isplitl [H0] <;> iassumption
    · isplitl [H1] <;> iassumption
  · isplitl [H2 K2]
    · isplitl [H2] <;> iassumption
    · isplitl [H3] <;> iassumption
/-- What it is handed at the barrier are the slots it sends to. -/
theorem peer_slots (c : Dev nD) :
    iprop(payK m c .bar 0 false ∗ payK m c .bar 0 true) ⊢ (iprop((LS fun l s => some' (peer l c) (slotOf rsBuf l s)) ∗ LS fun l s => some' (peer l c) (slotOf agBuf l s)) : sProp 𝕄) := by
  show iprop((land 2 c ∗ land 3 c) ∗ (land 0 c ∗ land 1 c)) ⊢ (iprop((LS fun l s => some' (peer l c) (slotOf rsBuf l s)) ∗ LS fun l s => some' (peer l c) (slotOf agBuf l s)) : sProp 𝕄)
  unfold land LS
  rw [bigSep_fin4, bigSep_fin4]
  simp only [bigSep_sep']
  iintro ⟨⟨⟨H2, K2⟩, H3, K3⟩, ⟨H0, K0⟩, H1, K1⟩
  isplitl [H0 H1 H2 H3]
  · isplitl [H0]; · iexact H0
    isplitl [H1]; · iexact H1
    isplitl [H2] <;> iassumption
  · isplitl [K0]; · iexact K0
    isplitl [K1]; · iexact K1
    isplitl [K2] <;> iassumption

/-- The first two debts are the entry barrier's signals, to the left and to the right. -/
theorem own_left (c : Dev nD) : owe c 60 = owe c 59 + tallyAt (cellK (lft c) .bar) () 1 ∧ owe c 59 = owe c 58 + tallyAt (cellK (rgt c) .bar) () 1 := ⟨rfl, rfl⟩
/-- The last two debts are the exit barrier's signals, to the left and to the right. -/
theorem own_left0 (c : Dev nD) : owe c 2 = owe c 1 + tallyAt (cellK (lft c) .fin) () 1 ∧ owe c 1 = owe c 0 + tallyAt (cellK (rgt c) .fin) () 1 := ⟨rfl, rfl⟩

variable (m) in
/-- What a device needs for the reduce-scatter. -/
def preReduce (c : Dev nD) : sProp 𝕄 :=
  iprop((some' c stageBuf ∗ parSh m c qM ∗ tok c .mine 0 false ∗ pos c .mine 0)
    ∗ ((L4 fun l => some' c (resSlot l)) ∗ (L4 fun l => rsdSh m c (qR l)) ∗ L4 fun l => tok c (.res l) 0 false)
    ∗ ((L4 fun l => IdleAt m c l 0) ∗ (L4 fun l => IdleAt m c l 1) ∗ LS fun l t => stTok c l t)
    ∗ ((LS fun l s => some' c (slotOf rsBuf l s)) ∗ LS fun l s => some' c (slotOf agBuf l s))
    ∗ (tok (lft c) .bar 0 true ∗ tok (rgt c) .bar 0 false ∗ cred (tallyAt (cellK c .bar) () 2) ∗ pos c .bar 0)
    ∗ ((LS fun l s => tok c (.rem .rsS l s) 0 false) ∗ (LS fun l s => tok (peer l c) (.rem .rsR l s) 0 false) ∗ (LS fun l s => pos c (.rem .rsS l s) 0)
      ∗ (LS fun l s => crd c (.rem .rsR l s)) ∗ LS fun l s => pos c (.rem .rsR l s) 0)
    ∗ LS fun l s => some' c (outSrc c l s.succ))
variable (m) in
/-- What the reduce-scatter leaves. -/
def postReduce (c : Dev nD) : sProp 𝕄 :=
  iprop((zero c .mine ∗ zero c .bar ∗ parSh m c qM ∗ L4 fun l => some' c (stageSlot l))
    ∗ ((L4 fun l => crd c (.res l)) ∗ L4 fun l => kept c (rsdOwn c l) (qR l) (rsdOf m c))
    ∗ ((L4 fun l => IdleAt m c l 7) ∗ L4 fun l => IdleAt m c l 8)
    ∗ ((LS fun l s => some' c (slotOf rsBuf l s)) ∗ LS fun l s => some' (peer l c) (slotOf agBuf l s))
    ∗ ((LS fun l s => zero c (.rem .rsS l s)) ∗ LS fun l s => zero c (.rem .rsR l s))
    ∗ (L4 fun l => owns (c : Thread nD τ) (outSrc c l 7) fullShare (Sm m l 7 c)) ∗ SL6 fun s l => some' c (outSrc c l s.succ.castSucc))

/-- The first half of the body: the copies in, the entry barrier and the reduce-scatter. It pays thirty debts of sixty. -/
theorem step_reduce : Step m κ c iprop(preReduce m c ∗ Ow c 60) iprop(postReduce m c ∗ Ow c 30) (reducePart c) := fun K Φ => by
  have h1 := step_mine (m := m) (κ := κ) (c := c)
  have h2 := Step.lanes₀ fun l => step_res (m := m) (κ := κ) (c := c) l
  have h3 : Step m κ c (L4 fun l => iprop(IdleAt m c l 0 ∗ stTok c l 0)) (L4 fun l => BusyAt m c l 0) (lanes fun l => stageStart c l 1 0) := Step.lanes₀ fun l => step_stage l 0
  have h4 := step_meet (m := m) (κ := κ) (c := c) .bar barSem rfl 58 rfl (fun r' h => if_neg (by omega)) rfl level_bar (own_left c).1 (own_left c).2
  have h5 := step_mineWait (m := m) (κ := κ) (c := c) 58 fun i hi => level_local i (Nat.lt_of_lt_of_le hi (by decide))
  have h6 := Step.lanes (m := m) (κ := κ) (c := c) (I := fun n => Ow c (58 - n)) (A := fun l => iprop(owns (c : Thread nD τ) (stageSlot l) fullShare (Sm m l 0 c) ∗ toRs c l 0))
    (B := fun l => crd c (.rem .rsS l 0)) (f := rsSend0 c) fun l => by
      have h := step_rsSend0 (m := m) (κ := κ) (c := c) l
      rw [(left_rs0 l).2, (left_rs0 l).1] at h
      exact h
  have h7 := Step.hops6 (m := m) (κ := κ) (c := c) (I := fun t => rsCarry m c t) fun s => step_rsHop s
  have h8 : Step m κ c iprop((L4 fun l => iprop(crd c (.rem .rsR l 6) ∗ pos c (.rem .rsR l 6) 0 ∗ BusyAt m c l 6 ∗ some' c (outSrc c l (6 : Fin 7).succ))) ∗ Ow c 30)
      iprop((L4 fun l => iprop(zero c (.rem .rsR l 6) ∗ some' c (slotOf rsBuf l 6) ∗ IdleAt m c l 8 ∗ owns (c : Thread nD τ) (outSrc c l (6 : Fin 7).succ) fullShare (Sm m l 7 c))) ∗ Ow c 30)
      (lanes fun l => rsBody c l ⟨6, by decide⟩) := Step.lanes (I := fun _ => Ow c 30) fun l => step_rsBody l 6 30 level_rs6
  have h9 := step_rsSends (m := m) (κ := κ) (c := c)
  simp only [bigSep_sep'] at h2 h3 h6 h7 h8 h9
  have e7 := SL6_need (F := F) c
  have e7' := SL6_leave (F := F) c
  unfold SL6 at e7 e7'
  rw [e7, e7'] at h7
  unfold reducePart preReduce
  iintro ⟨#HR, ⟨⟨Hst, Hpm, Htm, Hxm⟩, ⟨Hrs, Hrd, Htr⟩, ⟨HI0, HI1, Hts⟩, ⟨Hsa, Hsb⟩, ⟨Htl, Htg, Hcb, Hxb⟩, ⟨Ht1, Ht2, Hp1, Hc2, Hp2⟩, Hout⟩, HO⟩ Hk
  iapply (h1 _ Φ) $$ [Hst Hpm Htm]
  · isplitr; · iexact HR
    isplitl [Hst]; · iexact Hst
    isplitl [Hpm] <;> iassumption
  iintro ⟨Hcm, Hkm⟩
  iapply (h2 _ Φ) $$ [Hrs Hrd Htr]
  · isplitr; · iexact HR
    isplitl [Hrs]; · iexact Hrs
    isplitl [Hrd] <;> iassumption
  iintro ⟨Hcr, Hkr⟩
  ihave ⟨Ht0, Hts⟩ := (Entails.of_eq (LS_succ fun l t => stTok (F := F) c l t)) $$ Hts
  iapply (h3 _ Φ) $$ [HI0 Ht0]
  · isplitr; · iexact HR
    isplitl [HI0] <;> iassumption
  iintro HB
  ihave ⟨Hq1, Hq2⟩ := (own_slots (m := m) c) $$ [Hsa Hsb]
  · isplitl [Hsa] <;> iassumption
  iapply (h4 _ Φ) $$ [Hq1 Hq2 Htl Htg Hcb Hxb HO]
  · isplitr; · iexact HR
    isplitr [HO]
    · isplitl [Hq1]; · iexact Hq1
      isplitl [Hq2]; · iexact Hq2
      isplitl [Htl]; · iexact Htl
      isplitl [Htg]; · iexact Htg
      isplitl [Hcb] <;> iassumption
    · iexact HO
  iintro ⟨⟨Hzb, Hq⟩, HO⟩
  ihave ⟨Hsa, Hsb⟩ := (peer_slots (m := m) c) $$ Hq
  iapply (h5 _ Φ) $$ [Hcm Hxm HO]
  · isplitr; · iexact HR
    isplitr [HO]
    · isplitl [Hcm] <;> iassumption
    · iexact HO
  unfold payK
  iintro ⟨⟨Hzm, Hst, Hlm⟩, HO⟩
  ihave Hst := (stage_split c (mineVal m c)) $$ Hst
  ihave Hpm := (unlend c (parMine c) qM (parOf m c)) $$ [Hlm Hkm]
  · isplitl [Hlm] <;> iassumption
  ihave ⟨Hu0, Hu⟩ := (Entails.of_eq (LS_succ fun l s => some' (F := F) (peer l c) (slotOf rsBuf l s))) $$ Hsa
  ihave ⟨Hv0, Hv⟩ := (Entails.of_eq (LS_succ fun l s => tok (F := F) c (.rem .rsS l s) 0 false)) $$ Ht1
  ihave ⟨Hw0, Hw⟩ := (Entails.of_eq (LS_succ fun l s => tok (F := F) (peer l c) (.rem .rsR l s) 0 false)) $$ Ht2
  iapply (h6 _ Φ) $$ [Hst Hu0 Hv0 Hw0 HO]
  · isplitr; · iexact HR
    isplitr [HO]
    · isplitl [Hst]; · iexact Hst
      unfold toRs
      simp only [bigSep_sep']
      isplitl [Hu0]; · iexact Hu0
      isplitl [Hv0] <;> iassumption
    · iexact HO
  iintro ⟨Hc0, HO⟩
  ihave ⟨Hc2, Hc26⟩ := (Entails.of_eq (LS_cast fun l s => crd (F := F) c (.rem .rsR l s))) $$ Hc2
  ihave ⟨Hp2, Hp26⟩ := (Entails.of_eq (LS_cast fun l s => pos (F := F) c (.rem .rsR l s) 0)) $$ Hp2
  ihave ⟨Hout, Hout6⟩ := (Entails.of_eq (LS_cast fun l s => some' (F := F) c (outSrc c l s.succ))) $$ Hout
  iapply (h7 _ Φ) $$ [Hts Hc2 Hp2 Hout Hu Hv Hw HB HI1 HO]
  · isplitr; · iexact HR
    isplitr [HB HI1 HO]
    · isplitl [Hts]; · iexact Hts
      isplitl [Hc2]; · iexact Hc2
      isplitl [Hp2]; · iexact Hp2
      isplitl [Hout]; · iexact Hout
      unfold toRs
      simp only [bigSep_sep']
      isplitl [Hu]; · iexact Hu
      isplitl [Hv] <;> iassumption
    · unfold rsCarry
      isplitr [HO]
      · isplitl [HB]; · iexact HB
        iexact HI1
      · iexact HO
  unfold rsCarry
  iintro ⟨⟨Hz2, Hs2, Hc1⟩, ⟨HB, HI7⟩, HO⟩
  iapply (h8 _ Φ) $$ [Hc26 Hp26 HB Hout6 HO]
  · isplitr; · iexact HR
    isplitr [HO]
    · isplitl [Hc26]; · iexact Hc26
      isplitl [Hp26]; · iexact Hp26
      isplitl [HB]; · iexact HB
      iexact Hout6
    · iexact HO
  iintro ⟨⟨Hz26, Hs26, HI8, Hsum⟩, HO⟩
  ihave Hc1 := (Entails.of_eq (LS_succ fun l s => crd (F := F) c (.rem .rsS l s)).symm) $$ [Hc0 Hc1]
  · isplitl [Hc0] <;> iassumption
  iapply (h9 _ Φ) $$ [Hc1 Hp1 HO]
  · isplitr; · iexact HR
    isplitr [HO]
    · isplitl [Hc1] <;> iassumption
    · iexact HO
  iintro ⟨⟨Hz1, Hback⟩, HO⟩
  ihave ⟨Hst, Hout⟩ := (Entails.of_eq (LS_succ fun l s => rsOut m c l s)) $$ Hback
  ihave Hz2 := (Entails.of_eq (LS_cast fun l s => zero (F := F) c (.rem .rsR l s)).symm) $$ [Hz2 Hz26]
  · isplitl [Hz2] <;> iassumption
  ihave Hs2 := (Entails.of_eq (LS_cast fun l s => some' (F := F) c (slotOf rsBuf l s)).symm) $$ [Hs2 Hs26]
  · isplitl [Hs2] <;> iassumption
  have hst : (L4 fun l => rsOut m c l 0) ⊢ (L4 fun l => some' c (stageSlot l) : sProp 𝕄) := bigSep_mono fun l _ => some'_of c (stageSlot l) (Sm m l 0 c)
  have hou : (SL6 fun s l => rsOut m c l s.succ) ⊢ (SL6 fun s l => some' c (outSrc c l s.succ.castSucc) : sProp 𝕄) :=
    bigSep_mono fun s _ => bigSep_mono fun l _ => some'_of c (outSrc c l s.succ.castSucc) (Sm m l (s.val + 1) c)
  iapply Hk
  unfold postReduce
  isplitr [HO]
  · isplitl [Hzm Hzb Hpm Hst]
    · isplitl [Hzm]; · iexact Hzm
      isplitl [Hzb]; · iexact Hzb
      isplitl [Hpm]; · unfold parSh; iexact Hpm
      iapply hst; iexact Hst
    isplitl [Hcr Hkr]
    · isplitl [Hcr] <;> iassumption
    isplitl [HI7 HI8]
    · isplitl [HI7] <;> iassumption
    isplitl [Hs2 Hsb]
    · isplitl [Hs2] <;> iassumption
    isplitl [Hz1 Hz2]
    · isplitl [Hz1] <;> iassumption
    isplitl [Hsum]; · iexact Hsum
    iapply hou; iexact Hout
  · iexact HO

end Cert.KernelIdeal.RingProof

end
-- ==== Proof.RingGather.lean ====
/-
# The all-gather, and a device's run from start to end
-/
module

public import proofs.«01_k».proof.Proof.RingDevice

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {κ : Dev nD × Kd → ℕ} {c : Dev nD}

variable (m) in
/-- What a device needs for the all-gather. -/
def preGather (c : Dev nD) : sProp 𝕄 :=
  iprop(((L4 fun l => crd c (.res l)) ∗ (L4 fun l => pos c (.res l) 0) ∗ (L4 fun l => kept c (rsdOwn c l) (qR l) (rsdOf m c)) ∗ L4 fun l => owns (c : Thread nD τ) (outSrc c l 7) fullShare (Sm m l 7 c))
    ∗ owns (c : Thread nD τ) gamBuf fullShare (gamOf m c)
    ∗ ((LS fun l s => some' (peer l c) (slotOf agBuf l s)) ∗ (LS fun l s => tok c (.rem .agS l s) 0 false) ∗ (LS fun l s => tok (peer l c) (.rem .agR l s) 0 false)
      ∗ (LS fun l s => pos c (.rem .agS l s) 0) ∗ (LS fun l s => crd c (.rem .agR l s)) ∗ LS fun l s => pos c (.rem .agR l s) 0)
    ∗ (LS fun l s => some' c (outSrc c l s.castSucc))
    ∗ tok (lft c) .fin 0 true ∗ tok (rgt c) .fin 0 false ∗ cred (tallyAt (cellK c .fin) () 2) ∗ pos c .fin 0)
variable (m) in
/-- What the all-gather leaves. -/
def postGather (c : Dev nD) : sProp 𝕄 :=
  iprop(((L4 fun l => zero c (.res l)) ∗ (L4 fun l => some' c (resSlot l)) ∗ L4 fun l => rsdSh m c (qR l))
    ∗ owns (c : Thread nD τ) gamBuf fullShare (gamOf m c)
    ∗ ((LS fun l s => zero c (.rem .agS l s)) ∗ (LS fun l s => zero c (.rem .agR l s)) ∗ LS fun l s => some' c (slotOf agBuf l s))
    ∗ owns (c : Thread nD τ) outBuf fullShare (outV m)
    ∗ zero c .fin)

/-- The second half of the body: the normalisation, the all-gather and the exit barrier. It pays the other thirty debts. -/
theorem step_gather : Step m κ c iprop(preGather m c ∗ Ow c 30) iprop(postGather m c ∗ Ow c 0) (gatherPart c) := fun K Φ => by
  have h1 := Step.lanes (m := m) (κ := κ) (c := c) (I := fun n => iprop(owns (c : Thread nD τ) gamBuf fullShare (gamOf m c) ∗ Ow c (30 - n))) fun l => step_normLane l
  have h2 := Step.hops6 (m := m) (κ := κ) (c := c) (I := fun s => Ow c (26 - 4 * s)) fun s => step_agHop s
  have h3 : Step m κ c iprop((L4 fun l => iprop(crd c (.rem .agR l 6) ∗ pos c (.rem .agR l 6) 0 ∗ some' c (outSrc c l 6))) ∗ Ow c 2)
      iprop((L4 fun l => iprop(zero c (.rem .agR l 6) ∗ some' c (slotOf agBuf l 6) ∗ owns (c : Thread nD τ) (outSrc c l 6) fullShare (Av m l 6 (frm l c)))) ∗ Ow c 2)
      (lanes fun l k => agRecvWait c l ⟨6, by decide⟩ (copyRows c l ⟨6, by decide⟩ k)) := Step.lanes (I := fun _ => Ow c 2) fun l => step_agLast l
  have h4 := step_agSends (m := m) (κ := κ) (c := c)
  have h5 := step_meet (m := m) (κ := κ) (c := c) .fin endSem rfl 0 rfl (fun r' h => if_neg (by omega)) rfl (fun i hi => absurd hi (Nat.not_lt_zero i)) (own_left0 c).1 (own_left0 c).2
  simp only [bigSep_sep'] at h1 h3 h4
  have e2 := SL6_agNeed (F := F) c
  have e2' := SL6_agLeave (m := m) c
  unfold SL6 at e2 e2'
  rw [e2, e2'] at h2
  unfold gatherPart preGather
  iintro ⟨#HR, ⟨⟨Hcr, Hxr, Hkr, Hsum⟩, Hg, ⟨Hsb, Ht1, Ht2, Hp1, Hc2, Hp2⟩, Hout, Htl, Htg, Hcf, Hxf⟩, HO⟩ Hk
  ihave ⟨Hu0, Hu⟩ := (Entails.of_eq (LS_succ fun l s => some' (F := F) (peer l c) (slotOf agBuf l s))) $$ Hsb
  ihave ⟨Hv0, Hv⟩ := (Entails.of_eq (LS_succ fun l s => tok (F := F) c (.rem .agS l s) 0 false)) $$ Ht1
  ihave ⟨Hw0, Hw⟩ := (Entails.of_eq (LS_succ fun l s => tok (F := F) (peer l c) (.rem .agR l s) 0 false)) $$ Ht2
  iapply (h1 _ Φ) $$ [Hcr Hxr Hkr Hsum Hg Hu0 Hv0 Hw0 HO]
  · isplitr; · iexact HR
    isplitr [Hg HO]
    · isplitl [Hcr]; · iexact Hcr
      isplitl [Hxr]; · iexact Hxr
      isplitl [Hkr]; · iexact Hkr
      isplitl [Hsum]; · iexact Hsum
      unfold toAg
      simp only [bigSep_sep']
      isplitl [Hu0]; · iexact Hu0
      isplitl [Hv0] <;> iassumption
    · isplitl [Hg]; · iexact Hg
      iexact HO
  iintro ⟨⟨Hzr, Hrs, Hrd, Hc0⟩, Hg, HO⟩
  ihave ⟨Hc2, Hc26⟩ := (Entails.of_eq (LS_cast fun l s => crd (F := F) c (.rem .agR l s))) $$ Hc2
  ihave ⟨Hp2, Hp26⟩ := (Entails.of_eq (LS_cast fun l s => pos (F := F) c (.rem .agR l s) 0)) $$ Hp2
  ihave ⟨Hout, Hout6⟩ := (Entails.of_eq (LS_cast fun l s => some' (F := F) c (outSrc c l s.castSucc))) $$ Hout
  iapply (h2 _ Φ) $$ [Hc2 Hp2 Hout Hu Hv Hw HO]
  · isplitr; · iexact HR
    isplitr [HO]
    · isplitl [Hc2]; · iexact Hc2
      isplitl [Hp2]; · iexact Hp2
      isplitl [Hout]; · iexact Hout
      unfold toAg
      simp only [bigSep_sep']
      isplitl [Hu]; · iexact Hu
      isplitl [Hv] <;> iassumption
    · iexact HO
  iintro ⟨⟨Hz2, Hl, Hc1, Hout⟩, HO⟩
  iapply (h3 _ Φ) $$ [Hc26 Hp26 Hout6 HO]
  · isplitr; · iexact HR
    isplitr [HO]
    · isplitl [Hc26]; · iexact Hc26
      isplitl [Hp26]; · iexact Hp26
      iexact Hout6
    · iexact HO
  iintro ⟨⟨Hz26, Hs6, Hout6⟩, HO⟩
  ihave Hc1 := (Entails.of_eq (LS_succ fun l s => crd (F := F) c (.rem .agS l s)).symm) $$ [Hc0 Hc1]
  · isplitl [Hc0] <;> iassumption
  iapply (h4 _ Φ) $$ [Hc1 Hp1 HO]
  · isplitr; · iexact HR
    isplitr [HO]
    · isplitl [Hc1] <;> iassumption
    · iexact HO
  iintro ⟨⟨Hz1, Hback⟩, HO⟩
  ihave ⟨Hown, Hr⟩ := (Entails.of_eq (LS_succ fun l s => agOut m c l s)) $$ Hback
  iapply (h5 _ Φ) $$ [Htl Htg Hcf Hxf HO]
  · isplitr; · iexact HR
    isplitr [HO]
    · unfold payK
      isplitr; · iempintro
      isplitr; · iempintro
      isplitl [Htl]; · iexact Htl
      isplitl [Htg]; · iexact Htg
      isplitl [Hcf] <;> iassumption
    · iexact HO
  iintro ⟨⟨Hzf, -⟩, HO⟩
  ihave Hz2 := (Entails.of_eq (LS_cast fun l s => zero (F := F) c (.rem .agR l s)).symm) $$ [Hz2 Hz26]
  · isplitl [Hz2] <;> iassumption
  ihave Hout := (Entails.of_eq (LS_cast fun l s => owns (c : Thread nD τ) (outSrc c l s.castSucc) fullShare (Av m l s.val (frm l c))).symm) $$ [Hout Hout6]
  · isplitl [Hout]; · iexact Hout
    iexact Hout6
  have hown : (L4 fun l => agOut m c l 0) ⊢ (L4 fun l => owns (c : Thread nD τ) (outSrc c l 7) fullShare (Zv m l c) : sProp 𝕄) := bigSep_mono fun l _ => by
    show (owns (c : Thread nD τ) (outOwn c l) fullShare (Zv m l c) : sProp 𝕄) ⊢ _
    rw [outOwn_eq]
  have hhalf : iprop((SL6 fun s l => owns (c : Thread nD τ) (slotOf agBuf l s.castSucc) fullShare.left (Av m l s.val (frm l c))) ∗ SL6 fun s l => agOut m c l s.succ)
      ⊢ (SL6 fun s l => some' c (slotOf agBuf l s.castSucc) : sProp 𝕄) := by
    unfold SL6
    simp only [← bigSep_sep']
    exact bigSep_mono fun s _ => bigSep_mono fun l _ => some'_halves c (slotOf agBuf l s.castSucc) _ (Av m l (s.val + 1) c)
  ihave Hs := hhalf $$ [Hl Hr]
  · isplitl [Hl] <;> iassumption
  ihave Hs := (Entails.of_eq (LS_cast fun l s => some' (F := F) c (slotOf agBuf l s)).symm) $$ [Hs Hs6]
  · isplitl [Hs] <;> iassumption
  iapply Hk
  unfold postGather
  isplitr [HO]
  · isplitl [Hzr Hrs Hrd]
    · isplitl [Hzr]; · iexact Hzr
      isplitl [Hrs] <;> iassumption
    isplitl [Hg]; · iexact Hg
    isplitl [Hz1 Hz2 Hs]
    · isplitl [Hz1]; · iexact Hz1
      isplitl [Hz2] <;> iassumption
    isplitl [Hout Hown]
    · iapply (out_join m c)
      isplitl [Hout]; · iexact Hout
      iapply hown; iexact Hown
    · iexact Hzf
  · iexact HO

/-! ## From buffers to buffers -/

/-- Two resources, written out. -/
theorem bigSep_fin2 (f : Fin 2 → sProp 𝕄) : bigSep Finset.univ f = iprop(f 0 ∗ f 1) := by
  rw [bigSep_univ_eq_bigSepL [0, 1] (by decide) (by decide)]; rfl

/-- The shares of the partial result, by use: the staging cells', the own chunk's, and the rest. -/
def shareAt : ((Fin 4 × Fin 2) ⊕ Unit) ⊕ Fin 7 → Fin (2 ^ 4)
  | .inl (.inl p) => ⟨2 * p.1.val + p.2.val, by have := p.1.isLt; have := p.2.isLt; omega⟩
  | .inl (.inr _) => ⟨8, by decide⟩
  | .inr i => ⟨9 + i.val, by have := i.isLt; omega⟩
/-- The shares of the partial result that the copies borrow are different leaves. -/
theorem shareAt_bij : Function.Bijective shareAt := by decide +kernel

variable (m) in
/-- The shares no copy is lent. -/
def spare (c : Dev nD) : sProp 𝕄 := bigSep Finset.univ fun i : Fin 7 => parSh m c (ShareLeaves.leaf 4 fullShare (shareAt (.inr i)))

/-- The whole partial result as the shares lent to the copies and a spare share. -/
theorem par_shares (c : Dev nD) : parSh m c fullShare
    = iprop(((L4 fun l => bigSep Finset.univ fun b => parSh m c (qA l b)) ∗ parSh m c qM) ∗ spare m c) := by
  unfold parSh
  rw [ShareLeaves.pointsTo_leaves Finset.univ (parOf m c) 4 fullShare, bigSep_univ_equiv (Equiv.ofBijective shareAt shareAt_bij), bigSep_univ_sum, bigSep_univ_sum, bigSep_univ_of_subsingleton (), bigSep_univ_prod]
  rfl
/-- The whole residual as one share for each lane. -/
theorem rsd_shares (c : Dev nD) : rsdSh m c fullShare = L4 fun l => rsdSh m c (qR l) := by
  unfold rsdSh
  exact ShareLeaves.pointsTo_leaves Finset.univ (rsdOf m c) 2 fullShare

variable (F) in
/-- The device's scratch buffers, at any contents. -/
def scratches (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f)
    ∗ (∃ f : Buf (Elt F) ((c : Thread nD τ).loc cc0_scratch4), (c : Thread nD τ).loc cc0_scratch4 ↦{fullShare} f))

variable (F) in
/-- The tokens of the payments device `c` makes. -/
def tokens (c : Dev nD) : sProp 𝕄 :=
  iprop((LS fun l s => tok c (.rem .rsS l s) 0 false) ∗ (LS fun l s => tok (peer l c) (.rem .rsR l s) 0 false)
    ∗ (LS fun l s => tok c (.rem .agS l s) 0 false) ∗ (LS fun l s => tok (peer l c) (.rem .agR l s) 0 false)
    ∗ (LS fun l t => stTok c l t) ∗ (L4 fun l => tok c (.res l) 0 false) ∗ tok c .mine 0 false
    ∗ tok (lft c) .fin 0 true ∗ tok (rgt c) .fin 0 false ∗ tok (lft c) .bar 0 true ∗ tok (rgt c) .bar 0 false)

variable (F) in
/-- The credits of the cells others pay. -/
def credits (c : Dev nD) : sProp 𝕄 :=
  iprop((LS fun l s => crd c (.rem .rsR l s)) ∗ (LS fun l s => crd c (.rem .agR l s)) ∗ cred (tallyAt (cellK c .fin) () 2) ∗ cred (tallyAt (cellK c .bar) () 2))

variable (m) in
/-- What device `c` starts from, besides what it owes. -/
def preDev (c : Dev nD) : sProp 𝕄 :=
  iprop(scratches F c ∗ (∃ X, owns (c : Thread nD τ) outBuf fullShare X) ∗ owns (c : Thread nD τ) gamBuf fullShare (gamOf m c)
    ∗ parSh m c fullShare ∗ rsdSh m c fullShare ∗ (bigSep Finset.univ fun k : Kd => pos c k 0) ∗ tokens F c ∗ credits F c)
variable (m) in
/-- What it ends with. -/
def postDev (c : Dev nD) : sProp 𝕄 :=
  iprop(scratches F c ∗ owns (c : Thread nD τ) outBuf fullShare (outV m) ∗ owns (c : Thread nD τ) gamBuf fullShare (gamOf m c)
    ∗ parSh m c fullShare ∗ rsdSh m c fullShare ∗ bigSep Finset.univ fun k : Kd => zero c k)

/-- After its last round a staging cell has no duties. -/
theorem dut_acc_end (l : Fin 4) (b : Fin 2) (r : ℕ) (h : 7 ≤ 2 * r + b.val) : ∀ r' ≥ r, dutK (.acc l b) r' = ∅ := fun r' h' => if_neg (by omega)

/-- A staging cell past its last round gives back its counter. -/
theorem close_acc (t : ℕ) (ht : 7 ≤ 2 * (t / 2) + (parity t).val) :
    iprop(records m κ ∗ L4 fun l => IdleAt m c l t) ⊢ iprop(|={Set.univ}[frame]=> L4 fun l => iprop(some' c (accSlot l (parity t)) ∗ parSh m c (qA l (parity t)) ∗ zero c (.acc l (parity t)))) := by
  refine .trans (bigSep_with_persistent (R := records m κ) (Ψ := fun l => iprop(|={Set.univ}[frame]=> (some' c (accSlot l (parity t)) ∗ parSh m c (qA l (parity t)) ∗ zero c (.acc l (parity t))))) fun l _ => ?_) (bigSep_fupd _ _)
  unfold IdleAt
  iintro ⟨#HR, Hs, Hp, Ha, -⟩
  imod (Rounds.cell_close ER (Rd m) (Set.mem_univ (κ (c, .acc l (parity t)))) (fun h => h) (R := t / 2) (g := cellK c (.acc l (parity t)))
    (fun r' h => (duties_eq m c _ r').trans (dut_acc_end l _ _ ht r' h))) $$ [Ha] with Hz
  · isplitr; · iapply (records_inv m κ c (.acc l (parity t))); iexact HR
    iexact Ha
  imodintro
  isplitl [Hs]; · iexact Hs
  isplitl [Hp] <;> iassumption

/-- One for each staging cell. -/
abbrev LB (f : Fin 4 → Fin 2 → sProp 𝕄) : sProp 𝕄 := bigSep Finset.univ fun l => bigSep Finset.univ fun b => f l b

/-- At the start every staging cell is idle. -/
theorem idle_intro : iprop(records m κ ∗ (LB fun l b => some' c (accSlot l b)) ∗ (LB fun l b => parSh m c (qA l b)) ∗ LB fun l b => pos c (.acc l b) 0)
    ⊢ iprop((L4 fun l => IdleAt m c l 0) ∗ L4 fun l => IdleAt m c l 1) := by
  unfold LB L4
  simp only [← bigSep_sep']
  refine bigSep_with_persistent fun l _ => ?_
  have hr0 := records_reached m κ c (.acc l 0)
  have hr1 := records_reached m κ c (.acc l 1)
  rw [bigSep_fin2]
  unfold IdleAt
  iintro ⟨#HR, ⟨H0, P0, A0⟩, H1, P1, A1⟩
  isplitl [H0 P0 A0]
  · isplitl [H0]; · iexact H0
    isplitl [P0]; · iexact P0
    isplitl [A0]; · iexact A0
    iapply hr0; iexact HR
  · isplitl [H1]; · iexact H1
    isplitl [P1]; · iexact P1
    isplitl [A1]; · iexact A1
    iapply hr1; iexact HR

/-- The two staging cells of every lane, together again. -/
theorem idle_elim (f : Fin 4 → Fin 2 → sProp 𝕄) : iprop((L4 fun l => f l (parity 7)) ∗ L4 fun l => f l (parity 8)) ⊢ LB f := by
  unfold LB L4
  rw [← bigSep_sep']
  refine bigSep_mono fun l _ => ?_
  rw [bigSep_fin2]
  change iprop(_ ∗ _) ⊢ (iprop(_ ∗ _) : sProp 𝕄)
  iintro ⟨H1, H0⟩
  have e0 : parity 8 = 0 := rfl
  have e1 : parity 7 = 1 := rfl
  rw [e0, e1]
  isplitl [H0]; · iexact H0
  iexact H1

/-- A family over lanes and eight places: the first place's members and the others'. -/
theorem lanes8 (f : Fin 4 → Fin 8 → sProp 𝕄) : (bigSep Finset.univ fun l => bigSep Finset.univ fun n => f l n) = iprop(L4 (fun l => f l 0) ∗ LS fun l s => f l s.succ) := by
  unfold L4 LS
  rw [← bigSep_sep']
  exact bigSep_congr fun l _ => by rw [bigSep_fin8, bigSep_fin7]; rfl

/-- The whole staging buffer of the own chunk, held at some contents. -/
theorem stage_whole (c : Dev nD) (f : Buf (Elt F) ((c : Thread nD τ).loc cc0_scratch2)) :
    ((c : Thread nD τ).loc cc0_scratch2 ↦{fullShare} f : sProp 𝕄) ⊢ some' c stageBuf := by
  have h := some'_intro c stageBuf f
  rw [View.set_whole] at h
  exact h

/-- A device's run, from its buffers, tokens and credits to its buffers with the result, every counter back at zero. -/
theorem step_device : Step m κ c iprop(preDev m c ∗ Ow c 60) iprop(postDev m c ∗ Ow c 0) (fun k => reducePart c (gatherPart c k)) := fun K Φ => by
  have h1 := step_reduce (m := m) (κ := κ) (c := c)
  have h2 := step_gather (m := m) (κ := κ) (c := c)
  unfold preDev scratches tokens credits
  rw [par_shares, rsd_shares, bigSep_kd, bigSep_own]
  iintro ⟨#HR, ⟨⟨⟨%f0, Hs0⟩, ⟨%f1, Hs1⟩, ⟨%f2, Hs2⟩, ⟨%f3, Hs3⟩, %f4, Hs4⟩, ⟨%X, Hout⟩, Hg, ⟨⟨Hpa, Hpm⟩, Hps⟩, Hrd,
    ⟨⟨⟨Hx1, Hx2⟩, ⟨Hx3, Hx4⟩, Hxa, Hxr, Hxm, Hxf⟩, Hxb⟩, ⟨Ht1, Ht2, Ht3, Ht4, Hta, Htr, Htm, Htfl, Htfr, Htbl, Htbr⟩, Hc2, Hc4, Hcf, Hcb⟩, HO⟩ Hk
  ihave Hs0 := (rs_split c f0) $$ Hs0
  ihave Hs1 := (ag_split c f1) $$ Hs1
  ihave Hs2 := (stage_whole c f2) $$ Hs2
  ihave Hs3 := (acc_split c f3) $$ Hs3
  ihave Hs4 := (res_split c f4) $$ Hs4
  ihave Hout := (out_split c X) $$ Hout
  ihave ⟨Hout0, Hout⟩ := (Entails.of_eq (lanes8 fun l n => some' (F := F) c (outSrc c l n))) $$ Hout
  ihave ⟨HI0, HI1⟩ := (idle_intro (m := m) (κ := κ) (c := c)) $$ [Hs3 Hpa Hxa]
  · isplitr; · iexact HR
    isplitl [Hs3]; · iexact Hs3
    isplitl [Hpa]; · iexact Hpa
    iexact Hxa
  iapply (h1 _ Φ) $$ [Hs0 Hs1 Hs2 Hs4 Hpm Hrd HI0 HI1 Htm Hxm Htr Hta Htbl Htbr Hcb Hxb Ht1 Ht2 Hx1 Hc2 Hx2 Hout HO]
  · isplitr; · iexact HR
    isplitr [HO]
    · unfold preReduce
      isplitl [Hs2 Hpm Htm Hxm]
      · isplitl [Hs2]; · iexact Hs2
        isplitl [Hpm]; · iexact Hpm
        isplitl [Htm]; · iexact Htm
        iexact Hxm
      isplitl [Hs4 Hrd Htr]
      · isplitl [Hs4]; · iexact Hs4
        isplitl [Hrd]; · iexact Hrd
        iexact Htr
      isplitl [HI0 HI1 Hta]
      · isplitl [HI0]; · iexact HI0
        isplitl [HI1]; · iexact HI1
        iexact Hta
      isplitl [Hs0 Hs1]
      · isplitl [Hs0]; · iexact Hs0
        iexact Hs1
      isplitl [Htbl Htbr Hcb Hxb]
      · isplitl [Htbl]; · iexact Htbl
        isplitl [Htbr]; · iexact Htbr
        isplitl [Hcb]; · iexact Hcb
        iexact Hxb
      isplitl [Ht1 Ht2 Hx1 Hc2 Hx2]
      · isplitl [Ht1]; · iexact Ht1
        isplitl [Ht2]; · iexact Ht2
        isplitl [Hx1]; · iexact Hx1
        isplitl [Hc2]; · iexact Hc2
        iexact Hx2
      iexact Hout
    · iexact HO
  unfold postReduce
  iintro ⟨⟨⟨Hzm, Hzb, Hpm, Hst⟩, ⟨Hcr, Hkr⟩, ⟨HI7, HI8⟩, ⟨Hs0, Hs1⟩, ⟨Hz1, Hz2⟩, Hsum, Hout⟩, HO⟩
  ihave Hout := (Entails.of_eq (LS_succ fun l s => some' (F := F) c (outSrc c l s.castSucc)).symm) $$ [Hout0 Hout]
  · isplitl [Hout0]; · iexact Hout0
    iexact Hout
  iapply (h2 _ Φ) $$ [Hcr Hxr Hkr Hsum Hg Hs1 Ht3 Ht4 Hx3 Hc4 Hx4 Hout Htfl Htfr Hcf Hxf HO]
  · isplitr; · iexact HR
    isplitr [HO]
    · unfold preGather
      isplitl [Hcr Hxr Hkr Hsum]
      · isplitl [Hcr]; · iexact Hcr
        isplitl [Hxr]; · iexact Hxr
        isplitl [Hkr]; · iexact Hkr
        iexact Hsum
      isplitl [Hg]; · iexact Hg
      isplitl [Hs1 Ht3 Ht4 Hx3 Hc4 Hx4]
      · isplitl [Hs1]; · iexact Hs1
        isplitl [Ht3]; · iexact Ht3
        isplitl [Ht4]; · iexact Ht4
        isplitl [Hx3]; · iexact Hx3
        isplitl [Hc4]; · iexact Hc4
        iexact Hx4
      isplitl [Hout]; · iexact Hout
      isplitl [Htfl]; · iexact Htfl
      isplitl [Htfr]; · iexact Htfr
      isplitl [Hcf]; · iexact Hcf
      iexact Hxf
    · iexact HO
  unfold postGather
  iintro ⟨⟨⟨Hzr, Hs4, Hrd⟩, Hg, ⟨Hz3, Hz4, Hs1⟩, Hout, Hzf⟩, HO⟩
  have h7 := close_acc (m := m) (κ := κ) (c := c) 7 (by decide)
  have h8 := close_acc (m := m) (κ := κ) (c := c) 8 (by decide)
  unfold L4 at h7 h8
  simp only [bigSep_sep'] at h7 h8
  imod h7 $$ [HI7] with ⟨Hs7, Hp7, Hz7⟩
  · isplitr; · iexact HR
    iexact HI7
  imod h8 $$ [HI8] with ⟨Hs8, Hp8, Hz8⟩
  · isplitr; · iexact HR
    iexact HI8
  ihave Hs3 := (idle_elim fun l b => some' (F := F) c (accSlot l b)) $$ [Hs7 Hs8]
  · isplitl [Hs7]; · iexact Hs7
    iexact Hs8
  ihave Hpa := (idle_elim fun l b => parSh m c (qA l b)) $$ [Hp7 Hp8]
  · isplitl [Hp7]; · iexact Hp7
    iexact Hp8
  ihave Hza := (idle_elim fun l b => zero (F := F) c (.acc l b)) $$ [Hz7 Hz8]
  · isplitl [Hz7]; · iexact Hz7
    iexact Hz8
  iapply Hk
  isplitr [HO]
  · unfold postDev scratches
    rw [par_shares, rsd_shares, bigSep_kd, bigSep_own]
    isplitl [Hs0 Hs1 Hs3 Hs4 Hst]
    · isplitl [Hs0]; · iapply (rs_join c f0); iexact Hs0
      isplitl [Hs1]; · iapply (ag_join c f1); iexact Hs1
      isplitl [Hst]; · iapply (stage_join c f2); iexact Hst
      isplitl [Hs3]; · iapply (acc_join c f3); iexact Hs3
      iapply (res_join c f4); iexact Hs4
    isplitl [Hout]; · iexact Hout
    isplitl [Hg]; · iexact Hg
    isplitl [Hpa Hpm Hps]
    · isplitl [Hpa Hpm]
      · isplitl [Hpa]; · iexact Hpa
        iexact Hpm
      iexact Hps
    isplitl [Hrd]; · iexact Hrd
    isplitr [Hzb]
    · isplitl [Hz1 Hz2]
      · isplitl [Hz1]; · iexact Hz1
        iexact Hz2
      isplitl [Hz3 Hz4]
      · isplitl [Hz3]; · iexact Hz3
        iexact Hz4
      isplitl [Hza]; · iexact Hza
      isplitl [Hzr]; · iexact Hzr
      isplitl [Hzm]; · iexact Hzm
      iexact Hzf
    · iexact Hzb
  · iexact HO

end Cert.KernelIdeal.RingProof

end
-- ==== Proof.RingLaunch.lean ====
/-
# The launch: what the devices are dealt, and the run of the whole machine

The launch makes every cell's round state and one token for each payment; the tokens are handed to the devices that pay, which
are the cells' neighbours round the ring, and the credits to the devices that wait.
-/
module

public import proofs.«01_k».proof.Proof.RingGather
public import Idealize.ShloMosaic.Lib.Pipeline.CollectiveSegs

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the one region -/

/-- What a device brings to its body, besides the scratch buffers. -/
def start (c : Dev nD) : sProp 𝕄 :=
  iprop((∃ κ, records m κ) ∗ parSh m c fullShare ∗ rsdSh m c fullShare ∗ (bigSep Finset.univ fun k : Kd => pos c k 0) ∗ tokens F c ∗ credits F c)
/-- What it holds before the body, -/
def Φ₀ (c : Dev nD) : sProp 𝕄 := iprop(start m c ∗ scratches F c)
/-- and after it. -/
def Φ₁ (c : Dev nD) : sProp 𝕄 :=
  iprop(scratches F c ∗ parSh m c fullShare ∗ rsdSh m c fullShare ∗ bigSep Finset.univ fun k : Kd => zero c k)

/-- The gain is read, the result is written whole. -/
def dats (_ : Fin 1) (c : Dev nD) : Dat τ (Elt F) Unit ℕ UU ℕ cfg0 c where
  A w := m ((cfg0.win w).arr.view.loc (c : Thread nD τ))
  after w _ := match w with
    | ⟨0, _⟩ => gamOf m c
    | ⟨1, _⟩ => outV m
  Φ t := match t with
    | ⟨0, _⟩ => Φ₀ m c
    | ⟨_ + 1, _⟩ => Φ₁ m c
  q _ := fullShare
  owed t := match t with
    | ⟨0, _⟩ => owe c 60
    | ⟨_ + 1, _⟩ => 0

/-- The two windows, written out. -/
theorem win_split (Φ : Fin cfg0.W → sProp 𝕄) : bigSep Finset.univ Φ = iprop(Φ (0 : Fin 2) ∗ Φ (1 : Fin 2)) := bigSep_W0 Φ
/-- The gain's window is fetched at the grid's one step. -/
theorem gain_fetched (t : Fin cfg0.N) : (cfg0.win (0 : Fin 2)).fetch t = true := by rw [fin_N0 t]; rfl

/-! ## The body -/

def bodyPre (c : Dev nD) : sProp 𝕄 :=
  iprop(Φ₀ m c ∗ (dats m 0 c).owesAt () t0_0.castSucc
    ∗ (∃ d, owns (c : Thread nD τ) gamBuf fullShare ((dats m 0 c).before (0 : Fin 2) t0_0 d)) ∗ (∃ d, owns (c : Thread nD τ) outBuf fullShare ((dats m 0 c).before (1 : Fin 2) t0_0 d)))
def bodyPost (c : Dev nD) : sProp 𝕄 :=
  iprop(Φ₁ m c ∗ (dats m 0 c).owesAt () t0_0.succ ∗ owns (c : Thread nD τ) gamBuf fullShare (gamOf m c) ∗ owns (c : Thread nD τ) outBuf fullShare (outV m))

set_option maxRecDepth 20000 in
/-- The body as one device runs it: from what the launch gives it to what it leaves. -/
theorem body_run (c : Dev nD) : bodyPre m c ⊢ WP c (prog (F := F)) (fun _ => bodyPost m c) := by
  unfold bodyPre Φ₀ start prog
  simp only [wp_deviceId]
  iintro ⟨⟨⟨⟨%κ, #HR⟩, Hpar, Hrsd, Hpos, Htok, Hcr⟩, Hscr⟩, Ho, ⟨%d0, Hg⟩, ⟨%d1, Hout⟩⟩
  rw [show (dats m 0 c).before (0 : Fin 2) t0_0 d0 = gamOf m c by unfold Dat.before; rw [if_pos (gain_fetched t0_0)]; rfl]
  unfold Dat.owesAt Pipeline.owesWithin
  icases Ho with ⟨%W, %hW, HO⟩
  rw [show (dats m 0 c).owed t0_0.castSucc = owe c 60 from rfl]
  iapply (step_device (m := m) (κ := κ) (c := c) (.ret ⟨⟩) (fun _ => bodyPost m c)) $$ [Hpar Hrsd Hpos Htok Hcr Hscr Hg Hout HO]
  · isplitr; · iexact HR
    isplitr [HO]
    · unfold preDev
      isplitl [Hscr]; · iexact Hscr
      isplitl [Hout]
      · iexists _; iexact Hout
      isplitl [Hg]
      · iexact Hg
      isplitl [Hpar]; · iexact Hpar
      isplitl [Hrsd]; · iexact Hrsd
      isplitl [Hpos]; · iexact Hpos
      isplitl [Htok]; · iexact Htok
      iexact Hcr
    · unfold Ow; iexists W; iexact HO
  unfold postDev Ow
  iintro ⟨⟨Hscr, Hout, Hg, Hpar, Hrsd, Hz⟩, %W', HO⟩
  unfold WP
  rw [wp_ret]
  imodintro
  unfold bodyPost Φ₁ Dat.owesAt Pipeline.owesWithin
  rw [show (dats m 0 c).owed t0_0.succ = 0 from rfl]
  isplitl [Hscr Hpar Hrsd Hz]
  · isplitl [Hscr]; · iexact Hscr
    isplitl [Hpar]; · iexact Hpar
    isplitl [Hrsd]; · iexact Hrsd
    iexact Hz
  isplitl [HO]
  · iexists W'; isplitr; · ipureintro; exact fun _ _ => Or.inl trivial
    iexact HO
  isplitl [Hg]; · iexact Hg
  iexact Hout

set_option maxRecDepth 20000 in
/-- What the pipeline calls at its one point is the printed body. -/
theorem body_at : defs₀ (F := F) Proc.tc 0 (t0_0, cfg0.slots t0_0) = prog (F := F) :=
  (show _ = bodyAt0 t0_0 from rfl).trans ((show _ =
    (cc0_body (F := F) parBuf (Memref.isWhole_whole _) rsdBuf (Memref.isWhole_whole _) gamBuf (Memref.isWhole_whole _) outBuf (Memref.isWhole_whole _)
      rsBuf (Memref.isWhole_whole _) agBuf (Memref.isWhole_whole _) stageBuf (Memref.isWhole_whole _) accBuf (Memref.isWhole_whole _) resBuf (Memref.isWhole_whole _)
      cc0_scratch5 cc0_scratch6 cc0_scratch7 cc0_scratch8 cc0_scratch9 cc0_scratch10 cc0_scratch11 cc0_scoped0) from rfl).trans body_eq)

set_option maxRecDepth 20000 in
/-- The body, as the region asks for it. -/
theorem body_obligation (c : Dev nD) : BodyObligation (dats (F := F) m 0 c) (defs₀ (F := F)) 𝒱₀ () Set.univ := fun t => by
  rw [fin_N0 t, win_split, win_split]
  rw [body_at]
  dsimp only
  refine BIBase.Entails.trans (Q := WP c (prog (F := F)) (fun _ => bodyPost m c)) ?_ ?_
  · refine BIBase.Entails.trans ?_ (body_run m c)
    exact BIClass.sep_mono .rfl (BIClass.sep_mono .rfl (BIClass.sep_mono .rfl .rfl))
  · refine BIBase.Entails.of_eq ?_
    unfold WP
    congr 1

/-! ## Cells and tokens at launch -/

/-- The kernel's own cells. -/
abbrev osem (o : Own) : SemLoc sig := semOf (ofOwn o)

/-- The kernel's own cells live as long as the call. -/
theorem own_scoped : ∀ o : Own, (osem o).isScoped .tc = true := by decide +kernel
/-- The kernel's own cells are none of the windows' cells. -/
theorem own_apart : ∀ (o : Own) (w : Fin cfg0.W) (s : Fin (cfg0.spec w).nbuf), osem o ≠ .dma ((cfg0.spec w).sem s) := by decide +kernel
/-- The kernel's own cells are different from each other and from the windows'. -/
theorem ownSemFacts : Pipeline.OwnSemFacts cfg0.spec osem :=
  ⟨own_scoped, fun a b h => ofOwn_injective (semOf_injective h), own_apart⟩

/-- Different devices or kinds have different cells. -/
theorem cellK_injective : Function.Injective (fun p : Dev nD × Kd => cellK p.1 p.2) := fun a b h =>
  Prod.ext (congrArg (fun g : GSem nD τ sig => g.1.1) h) (semOf_injective (congrArg Prod.snd h))

def ringCells : Finset (GSem nD τ sig) := Finset.univ.map ⟨fun p : Dev nD × Kd => cellK p.1 p.2, cellK_injective⟩

/-- The payments a device's cells wait for. -/
abbrev Pay : Type := ((Fin 4 × Fin 7) ⊕ (Fin 4 × Fin 7)) ⊕ ((Fin 4 × Fin 7) ⊕ (Fin 4 × Fin 7)) ⊕ (Fin 4 × Fin 7) ⊕ Fin 4 ⊕ Unit ⊕ Bool ⊕ Bool
/-- The cell, the round and the duty of a payment. -/
def payAt : Pay → Kd × ℕ × Bool
  | .inl (.inl p) => (.rem .rsS p.1 p.2, 0, false)
  | .inl (.inr p) => (.rem .rsR p.1 p.2, 0, false)
  | .inr (.inl (.inl p)) => (.rem .agS p.1 p.2, 0, false)
  | .inr (.inl (.inr p)) => (.rem .agR p.1 p.2, 0, false)
  | .inr (.inr (.inl p)) => (.acc p.1 (parity p.2.val), p.2.val / 2, false)
  | .inr (.inr (.inr (.inl l))) => (.res l, 0, false)
  | .inr (.inr (.inr (.inr (.inl _)))) => (.mine, 0, false)
  | .inr (.inr (.inr (.inr (.inr (.inl d))))) => (.fin, 0, d)
  | .inr (.inr (.inr (.inr (.inr (.inr d))))) => (.bar, 0, d)
def payOf : Kd × ℕ × Bool → Pay
  | (.rem .rsS l s, _, _) => .inl (.inl (l, s))
  | (.rem .rsR l s, _, _) => .inl (.inr (l, s))
  | (.rem .agS l s, _, _) => .inr (.inl (.inl (l, s)))
  | (.rem .agR l s, _, _) => .inr (.inl (.inr (l, s)))
  | (.acc l b, r, _) => .inr (.inr (.inl (l, ⟨(2 * r + b.val) % 7, Nat.mod_lt _ (by decide)⟩)))
  | (.res l, _, _) => .inr (.inr (.inr (.inl l)))
  | (.mine, _, _) => .inr (.inr (.inr (.inr (.inl ()))))
  | (.fin, _, d) => .inr (.inr (.inr (.inr (.inr (.inl d)))))
  | (.bar, _, d) => .inr (.inr (.inr (.inr (.inr (.inr d)))))
/-- A hop is found again from its round and its slot. -/
theorem hop_parity : ∀ s : Fin 7, (⟨(2 * (s.val / 2) + (parity s.val).val) % 7, Nat.mod_lt _ (by decide)⟩ : Fin 7) = s := by decide
/-- A payment is found again from the cell, round and duty that it pays. -/
theorem payOf_payAt : ∀ p : Pay, payOf (payAt p) = p := by
  rintro ((p | p) | (p | p) | ⟨l, s⟩ | l | _ | d | d) <;> first | rfl | exact congrArg (fun x : Fin 7 => (.inr (.inr (.inl (l, x))) : Pay)) (hop_parity s)

def tokAt (p : Dev nD × Pay) : GSem nD τ sig × ℕ × Bool := (cellK p.1 (payAt p.2).1, (payAt p.2).2)
/-- Different payments have different tokens. -/
theorem tokAt_injective : Function.Injective tokAt := fun a b h => by
  have h1 : a.1 = b.1 := congrArg (fun x : GSem nD τ sig × ℕ × Bool => x.1.1.1) h
  have h2 : (payAt a.2).1 = (payAt b.2).1 := semOf_injective (congrArg (fun x : GSem nD τ sig × ℕ × Bool => x.1.2) h)
  have h3 : (payAt a.2).2 = (payAt b.2).2 := congrArg (fun x : GSem nD τ sig × ℕ × Bool => x.2) h
  exact Prod.ext h1 (by rw [← payOf_payAt a.2, ← payOf_payAt b.2, Prod.ext h2 h3])
def ringToks : Finset (GSem nD τ sig × ℕ × Bool) := Finset.univ.map ⟨tokAt, tokAt_injective⟩

def u₀ : UU := (initOf (Pipeline.cells cfgs cellOf_inj) (Pipeline.launchToks cfgs cellOf_inj), initOf ringCells ringToks)

variable (F) in
/-- The tokens of a device's own cells. -/
def ownToks (c : Dev nD) : sProp 𝕄 :=
  iprop(((LS fun l s => tok c (.rem .rsS l s) 0 false) ∗ LS fun l s => tok c (.rem .rsR l s) 0 false)
    ∗ ((LS fun l s => tok c (.rem .agS l s) 0 false) ∗ LS fun l s => tok c (.rem .agR l s) 0 false)
    ∗ (LS fun l t => stTok c l t) ∗ (L4 fun l => tok c (.res l) 0 false) ∗ tok c .mine 0 false
    ∗ (tok c .fin 0 true ∗ tok c .fin 0 false) ∗ tok c .bar 0 true ∗ tok c .bar 0 false)

/-- Two resources indexed by a truth value, written out. -/
theorem bigSep_bool (f : Bool → sProp 𝕄) : bigSep Finset.univ f = iprop(f true ∗ f false) := by
  rw [bigSep_univ_eq_bigSepL [true, false] (by decide) (by decide)]; rfl

/-- The tokens of a device's own cells, sorted by kind. -/
theorem ownToks_eq (c : Dev nD) : (bigSep Finset.univ fun p : Pay => (dutyTok ER (tokAt (c, p)).1 (tokAt (c, p)).2.1 (tokAt (c, p)).2.2 : sProp 𝕄)) = ownToks F c := by
  rw [bigSep_univ_sum, bigSep_univ_sum, bigSep_univ_sum, bigSep_univ_sum, bigSep_univ_sum, bigSep_univ_sum, bigSep_univ_sum, bigSep_univ_sum,
    bigSep_univ_prod, bigSep_univ_prod, bigSep_univ_prod, bigSep_univ_prod, bigSep_univ_prod, bigSep_univ_of_subsingleton (), bigSep_bool, bigSep_bool]
  rfl

/-- What the launch deals a device. -/
def G (c : Dev nD) : sProp 𝕄 :=
  iprop((bigSep Finset.univ fun k : Kd => roundState ER (Rd m) (cellK c k) 0) ∗ (bigSep Finset.univ fun k : Kd => reached ER (cellK c k) 0)
    ∗ (bigSep Finset.univ fun k : Kd => pos c k 0) ∗ ownToks F c)

/-- The protocol's starting state is shared out to the devices. -/
theorem fund_ring : BI.own (ER (initOf ringCells ringToks)) ⊢ (|==> bigSep Finset.univ (G m) : sProp 𝕄) := by
  have hc (Φ : GSem nD τ sig → sProp 𝕄) : bigSep ringCells Φ = bigSep Finset.univ fun c : Dev nD => bigSep Finset.univ fun k : Kd => Φ (cellK c k) := by
    unfold ringCells; rw [bigSep_map, bigSep_univ_prod]; rfl
  have ht : bigSep ringToks (fun x => (dutyTok ER x.1 x.2.1 x.2.2 : sProp 𝕄)) = bigSep Finset.univ fun c : Dev nD => ownToks F c := by
    unfold ringToks; rw [bigSep_map, bigSep_univ_prod]
    exact bigSep_congr fun c _ => ownToks_eq c
  iintro H
  imod (Rounds.fund ER (Rd m) ringCells ringToks) $$ H with ⟨Hst, Hr, Hat, Htok⟩
  imodintro
  unfold G; simp only [bigSep_sep']
  isplitl [Hst]; · iapply (Entails.of_eq (hc fun g => roundState ER (Rd m) g 0)); iexact Hst
  isplitl [Hr]; · iapply (Entails.of_eq (hc fun g => reached ER g 0)); iexact Hr
  isplitl [Hat]; · iapply (Entails.of_eq (hc fun g => atPos ER g 0 ∅ 0)); iexact Hat
  iapply (Entails.of_eq ht); iexact Htok

/-! ## The invariants, and the tokens handed round -/

/-- The only counter that outlives the call is the barrier's. -/
theorem barrier_only (c : Dev nD) : (unscopedSems0 c : sProp 𝕄) = zero c .bar := by
  unfold unscopedSems0; rw [bigSep_eq_bigSepL_of_eq [SemLoc.reg barSem] (by decide +kernel) (by decide)]; rfl

/-- All counters of a device's cells: its own and the barrier's. -/
theorem zeros_eq (c : Dev nD) :
    (bigSep Finset.univ fun k : Kd => (zero c k : sProp 𝕄)) = iprop(Pipeline.ownSems0 osem c ∗ unscopedSems0 c) := by
  rw [bigSep_kd, barrier_only]; rfl

/-- Every cell's invariant, every cell at its first round. -/
def base (κ : Dev nD × Kd → ℕ) : sProp 𝕄 :=
  iprop((bigSep Finset.univ fun p : Dev nD × Kd => cellInv ER (Rd m) (κ p) (cellK p.1 p.2)) ∗ bigSep Finset.univ fun p : Dev nD × Kd => reached ER (cellK p.1 p.2) 0)
instance base_persistent (κ : Dev nD × Kd → ℕ) : BI.Persistent (base m κ) := by unfold base; infer_instance

/-- What a device holds once the invariants are made. -/
def G' (c : Dev nD) : sProp 𝕄 := iprop((∃ κ, base m κ) ∗ (bigSep Finset.univ fun k : Kd => pos c k 0) ∗ tokens F c)

/-- One device's cells, all at zero, are put under the protocol. -/
theorem core_alloc (c : Dev nD) :
    iprop(Pipeline.ownSems0 osem c ∗ unscopedSems0 c ∗ G m c)
      ⊢ |={Set.univ}=> iprop((bigSep Finset.univ fun k : Kd => iprop(∃ n : ℕ, cellInv ER (Rd m) n (cellK c k)))
          ∗ (bigSep Finset.univ fun k : Kd => reached ER (cellK c k) 0) ∗ (bigSep Finset.univ fun k : Kd => pos c k 0) ∗ ownToks F c) := by
  have hall : iprop((bigSep Finset.univ fun k : Kd => zero c k) ∗ bigSep Finset.univ fun k : Kd => roundState ER (Rd m) (cellK c k) 0)
      ⊢ (|={Set.univ}=> bigSep Finset.univ fun k : Kd => iprop(∃ n : ℕ, cellInv ER (Rd m) n (cellK c k)) : sProp 𝕄) := by
    rw [← bigSep_sep']
    exact (bigSep_mono fun k _ => (Rounds.body_intro ER (Rd m) (cellK c k)).trans inv_alloc).trans (bigSep_fupd _ _)
  unfold G
  iintro ⟨Hos, Hus, Hst, Hr, Hat, Htok⟩
  imod hall $$ [Hos Hus Hst] with Hinv
  · isplitl [Hos Hus]
    · iapply (Entails.of_eq (zeros_eq c).symm)
      isplitl [Hos]; · iexact Hos
      iexact Hus
    · iexact Hst
  imodintro
  isplitl [Hinv]; · iexact Hinv
  isplitl [Hr]; · iexact Hr
  isplitl [Hat]; · iexact Hat
  iexact Htok

/-- One token per lane and hop, each handed to the lane's sender. -/
theorem around (k : Fin 4 → Fin 7 → Kd) :
    (bigSep Finset.univ fun c : Dev nD => LS fun l s => tok (F := F) c (k l s) 0 false) = bigSep Finset.univ fun c : Dev nD => LS fun l s => tok (peer l c) (k l s) 0 false := by
  unfold LS
  rw [swap fun (c : Dev nD) (l : Fin 4) => bigSep Finset.univ fun s : Fin 7 => tok (F := F) c (k l s) 0 false,
    swap fun (c : Dev nD) (l : Fin 4) => bigSep Finset.univ fun s : Fin 7 => tok (F := F) (peer l c) (k l s) 0 false]
  exact bigSep_congr fun l _ => bigSep_univ_equiv (ringOf l) _

def leftEquiv : Dev nD ≃ Dev nD := ⟨lft, rgt, rgt_lft, lft_rgt⟩

/-- Each token goes to the device that pays with it: the remote ones move to the neighbour. -/
theorem toks_around : (bigSep Finset.univ fun c : Dev nD => ownToks F c) ⊢ bigSep Finset.univ fun c : Dev nD => tokens F c := by
  have e1 := around (F := F) fun l s => .rem .rsR l s
  have e2 := around (F := F) fun l s => .rem .agR l s
  have e3 (k : Kd) : (bigSep Finset.univ fun c : Dev nD => tok (F := F) c k 0 true) = bigSep Finset.univ fun c : Dev nD => tok (lft c) k 0 true := bigSep_univ_equiv leftEquiv _
  have e4 (k : Kd) : (bigSep Finset.univ fun c : Dev nD => tok (F := F) c k 0 false) = bigSep Finset.univ fun c : Dev nD => tok (rgt c) k 0 false := bigSep_univ_equiv leftEquiv.symm _
  unfold ownToks tokens
  rw [bigSep_sep', bigSep_sep', bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep', bigSep_sep', bigSep_sep',
    e1, e2, e3 .fin, e3 .bar, e4 .fin, e4 .bar]
  iintro ⟨⟨H1, H2⟩, ⟨H3, H4⟩, H5, H6, H7, ⟨H8, H9⟩, H10, H11⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The devices' records are shared with all, and each device gets its positions and tokens. -/
theorem regroup :
    (bigSep Finset.univ fun c : Dev nD => iprop((bigSep Finset.univ fun k : Kd => iprop(∃ n : ℕ, cellInv ER (Rd m) n (cellK c k)))
          ∗ (bigSep Finset.univ fun k : Kd => reached ER (cellK c k) 0) ∗ (bigSep Finset.univ fun k : Kd => pos c k 0) ∗ ownToks F c))
      ⊢ bigSep Finset.univ (G' m) := by
  have hdeal (κ : Dev nD × Kd → ℕ) : iprop(base m κ ∗ bigSep Finset.univ fun c : Dev nD => iprop((bigSep Finset.univ fun k : Kd => pos c k 0) ∗ tokens F c)) ⊢ bigSep Finset.univ (G' m) := by
    refine bigSep_with_persistent fun c _ => ?_
    unfold G'
    iintro ⟨#HB, Hat, Htok⟩
    isplitr; · iexists κ; iexact HB
    isplitl [Hat]; · iexact Hat
    iexact Htok
  rw [bigSep_sep', bigSep_sep', bigSep_sep', ← bigSep_univ_prod (fun p : Dev nD × Kd => iprop(∃ n : ℕ, cellInv ER (Rd m) n (cellK p.1 p.2))),
    ← bigSep_univ_prod (fun p : Dev nD × Kd => (reached ER (cellK p.1 p.2) 0 : sProp 𝕄))]
  iintro ⟨HI, HR, Hat, Htok⟩
  ihave HK := (BI.bigSep_exists_pi Finset.univ (fun (p : Dev nD × Kd) (n : ℕ) => (cellInv ER (Rd m) n (cellK p.1 p.2) : sProp 𝕄))) $$ HI
  icases HK with ⟨%κ, HI⟩
  iapply (hdeal κ)
  isplitl [HI HR]
  · unfold base
    isplitl [HI]; · iexact HI
    iexact HR
  · rw [bigSep_sep']
    isplitl [Hat]; · iexact Hat
    iapply (toks_around (F := F)); iexact Htok

/-- The protocol is set up on all devices together. -/
theorem glob : (bigSep Finset.univ fun c => iprop(Pipeline.ownSems0 osem c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits -/

/-- A debt is owed to a device exactly if the debtor is that device's neighbour on the debt's side. -/
theorem debtTo_eq (d c : Dev nD) (i : ℕ) : Iff (debtTo d i = c) (d = if debtR i then lft c else rgt c) := by
  unfold debtTo
  cases debtR i
  · exact ⟨fun h => by rw [← h]; exact (rgt_lft d).symm, fun h => by rw [h]; exact lft_rgt c⟩
  · exact ⟨fun h => by rw [← h]; exact (lft_rgt d).symm, fun h => by rw [h]; exact rgt_lft c⟩

/-- Two cells are equal exactly if their devices and kinds are. -/
theorem cellK_eq (c d : Dev nD) (k k' : Kd) : Iff (cellK c k = cellK d k') (d = c ∧ k' = k) :=
  ⟨fun h => by have := cellK_injective (a₁ := (c, k)) (a₂ := (d, k')) h; exact ⟨(congrArg Prod.fst this).symm, (congrArg Prod.snd this).symm⟩, fun ⟨h, h'⟩ => by rw [h, h']⟩

/-- What all devices together owe a cell. -/
theorem owed_sum (c : Dev nD) (k : Kd) : ∀ n : ℕ, ∑ d : Dev nD, owe d n (cellK c k) () = ((Finset.range n).filter fun i => debtKd i = k).card * amtK k
  | 0 => by simp [owe]
  | n + 1 => by
    have h1 (d : Dev nD) : owe d (n + 1) (cellK c k) () = owe d n (cellK c k) () + if d = (if debtR n then lft c else rgt c) then (if debtKd n = k then amtK k else 0) else 0 := by
      rw [owe_succ, Pi.add_apply, Finsupp.add_apply, tallyAt_apply]
      congr 1
      by_cases hd : debtTo d n = c
      · by_cases hk : debtKd n = k
        · rw [if_pos ⟨(cellK_eq c _ k _).mpr ⟨hd, hk⟩, rfl⟩, if_pos ((debtTo_eq d c n).mp hd), if_pos hk, hk]
        · rw [if_neg fun h => hk ((cellK_eq c _ k _).mp h.1).2, if_pos ((debtTo_eq d c n).mp hd), if_neg hk]
      · rw [if_neg fun h => hd ((cellK_eq c _ k _).mp h.1).1, if_neg fun h => hd ((debtTo_eq d c n).mpr h)]
    rw [Finset.sum_congr rfl fun d _ => h1 d, Finset.sum_add_distrib, owed_sum c k n, Finset.sum_ite_eq' Finset.univ _ fun _ => _, if_pos (Finset.mem_univ _),
      Finset.range_add_one, Finset.filter_insert]
    by_cases hk : debtKd n = k
    · rw [if_pos hk, if_pos hk, Finset.card_insert_of_notMem (by simp), Nat.succ_mul]
    · rw [if_neg hk, if_neg hk, Nat.add_zero]

/-- How many payments a cell gets in all. -/
def dueN (k : Kd) : ℕ := ((Finset.range 60).filter fun i => debtKd i = k).card
/-- One payment is made onto each receive cell of the reduce-scatter. -/
theorem due_rs : ∀ (l : Fin 4) (s : Fin 7), dueN (.rem .rsR l s) = 1 := by decide +kernel
/-- One payment is made onto each receive cell of the all-gather. -/
theorem due_ag : ∀ (l : Fin 4) (s : Fin 7), dueN (.rem .agR l s) = 1 := by decide +kernel
/-- Two payments are made onto the exit barrier's cell. -/
theorem due_fin : dueN .fin = 2 := by decide +kernel
/-- Two payments are made onto the entry barrier's cell. -/
theorem due_bar : dueN .bar = 2 := by decide +kernel

/-- What all devices together owe to a cell is the cell's payments times their amount. -/
theorem launch_credit (c : Dev nD) (k : Kd) :
    tallyOn (cellK c k) (launchCredit (Pipeline.owing fun d => owe d 60) 0 (cellK c k)) = (tallyAt (cellK c k) () (dueN k * amtK k) : CellTallies nD τ sig Unit) := by
  unfold tallyAt; refine congrArg _ (Finsupp.ext fun u => ?_); cases u
  rw [Pipeline.launchCredit_owing, Finsupp.single_eq_same, owed_sum]; rfl

/-- The credit that a device has at the launch, cell by cell. -/
theorem creds (c : Dev nD) : (Pipeline.launchCred (fun d => owe d 60) c : sProp 𝕄) ⊢ credits F c := by
  have hk : (Pipeline.launchCred (fun d => owe d 60) c : sProp 𝕄) ⊢ bigSep Finset.univ fun k : Kd => cred (tallyAt (cellK c k) () (dueN k * amtK k)) := by
    unfold Pipeline.launchCred
    rw [BI.bigSep_sdiff_split (Finset.subset_univ (Finset.univ.map ⟨semOf, semOf_injective⟩)), bigSep_map]
    refine Entails.trans sep_elim_left (Entails.of_eq (bigSep_congr fun k _ => ?_))
    exact congrArg _ (launch_credit c k)
  refine hk.trans ?_
  rw [bigSep_kd, bigSep_own]
  have e1 : (LS fun l s => (cred (tallyAt (cellK c (.rem .rsR l s)) () (dueN (.rem .rsR l s) * amtK (.rem .rsR l s))) : sProp 𝕄)) = LS fun l s => crd c (.rem .rsR l s) :=
    bigSep_congr fun l _ => bigSep_congr fun s _ => by dsimp only; rw [due_rs, Nat.one_mul]
  have e2 : (LS fun l s => (cred (tallyAt (cellK c (.rem .agR l s)) () (dueN (.rem .agR l s) * amtK (.rem .agR l s))) : sProp 𝕄)) = LS fun l s => crd c (.rem .agR l s) :=
    bigSep_congr fun l _ => bigSep_congr fun s _ => by dsimp only; rw [due_ag, Nat.one_mul]
  have e3 : (cred (tallyAt (cellK c .fin) () (dueN .fin * amtK .fin)) : sProp 𝕄) = cred (tallyAt (cellK c .fin) () 2) := by rw [due_fin]; rfl
  have e4 : (cred (tallyAt (cellK c .bar) () (dueN .bar * amtK .bar)) : sProp 𝕄) = cred (tallyAt (cellK c .bar) () 2) := by rw [due_bar]; rfl
  unfold credits
  iintro ⟨⟨⟨-, H1⟩, ⟨-, H2⟩, -, -, -, H3⟩, H4⟩
  isplitl [H1]; · iapply (Entails.of_eq e1); iexact H1
  isplitl [H2]; · iapply (Entails.of_eq e2); iexact H2
  isplitl [H3]; · iapply (Entails.of_eq e3); iexact H3
  iapply (Entails.of_eq e4); iexact H4

/-! ## The region's entry and exit -/

/-- From what the launch gives a device, what the device starts with. -/
theorem start_intro (c : Dev nD) :
    iprop(Pipeline.unscopedRestP Pipeline.Prefetch.none cfg0.spec c (fun b => m ((c : Thread nD τ).loc b)) ∗ levAts L lv
        ∗ Pipeline.launchCred (fun d => owe d 60) c ∗ prngReg c (ρ c) ∗ G' m c)
      ⊢ |={Set.univ}=> iprop(start m c ∗ emp) := by
  rw [Pipeline.unscopedRestP_none, unscopedRest0_eq]
  unfold start G'
  iintro ⟨⟨Hpar, Hrsd⟩, #Hlev, Hcr, -, ⟨%κ, HB⟩, Hat, Htok⟩
  ihave Hc := (creds (F := F) c) $$ Hcr
  imodintro
  isplitl
  · isplitl [HB]
    · iexists κ
      unfold records base
      icases HB with ⟨HI, HR⟩
      isplitl [HI]; · iexact HI
      isplitl [HR]; · iexact HR
      iexact Hlev
    isplitl [Hpar]; · unfold parSh; iexact Hpar
    isplitl [Hrsd]; · unfold rsdSh; iexact Hrsd
    isplitl [Hat]; · iexact Hat
    isplitl [Htok]; · iexact Htok
    iexact Hc
  · iempintro

/-- What the device starts with, and the call's scratch, are the body's precondition. -/
theorem entry_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

/-- What a device ends with outside the region: its barrier counter and its two inputs that no window stages. -/
def left (c : Dev nD) : sProp 𝕄 := iprop(unscopedSems0 c ∗ parSh m c fullShare ∗ rsdSh m c fullShare)

/-- The body's postcondition gives back the call's cells and scratch, and what is left. -/
theorem exit_elim (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ left scratches
  rw [zeros_eq]
  iintro ⟨Hr, Hpar, Hrsd, Hos, Hus⟩
  isplitl [Hpar Hrsd Hus]
  · isplitl [Hus]; · iexact Hus
    isplitl [Hpar]; · iexact Hpar
    iexact Hrsd
  isplitl [Hos]; · iexact Hos
  iexact Hr

/-- The windows' own waits are below all that a device owes. -/
theorem waits (c : Dev nD) : (levAts L lv : sProp 𝕄) ⊢ Pipeline.cellsWaits cfgs (dats m) () 0 c :=
  Pipeline.cellsWaits_intro cfgs (dats m) () 0 c fun w s t => by
    have hd : lvK (dec (.dma ((cfg0.spec w).sem s))) = 0 := by fin_cases w <;> fin_cases s <;> rfl
    rcases t with ⟨_ | _, ht⟩
    · exact mayWait c _ 60 fun i hi => lt_of_eq_of_lt hd (level_local i hi)
    · exact mayWait c _ 0 fun i hi => absurd hi (Nat.not_lt_zero i)

/-! ## The run -/

/-- The contents a window's array ends with. -/
def finalA (c : Dev nD) (w : Fin cfg0.W) : Buf (Elt F) ((cfg0.win w).arr.view.loc (c : Thread nD τ)) := (dats m 0 c).arrAt w cfg0.N

/-- The arrays at their final contents, the inputs no window stages unchanged. -/
def Ends (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg0) = m ((c : Thread nD τ).loc main_arg0) ∧ r.2.mem ((c : Thread nD τ).loc main_arg1) = m ((c : Thread nD τ).loc main_arg1)

/-- What is read of a device at the end, besides the windows' arrays. -/
abbrev Rest (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_arg1) = m ((c : Thread nD τ).loc main_arg1)

/-- What a device is left with says what the memory holds. -/
theorem rest_read (c : Dev nD) (s' : Phys nD τ sig (Elt F)) : iprop(left m c ∗ emp ∗ SI s') ⊢ |={Set.univ}=> iprop(⌜Rest m c s'.mem⌝ ∗ SI s') := by
  unfold left parSh rsdSh
  iintro ⟨⟨Hu, Hp, Hr⟩, -, HSI⟩
  icombine HSI Hp gives %hp
  icombine HSI Hr gives %hr
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hp, Buf.eq_of_forall_mem_univ hr⟩
  iexact HSI

set_option maxRecDepth 20000 in
/-- At any float values, from any memory with zero counters: every execution of the eight devices ends, without fault, each
    device's result holding the computed rows, its inputs unchanged, every counter back at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0)
    (hshare := fun c w => by unfold Dat.share; split <;> rfl)
    (hdistinct := winFacts0.arr_inj)
    (O₀ := fun d => owe d 60) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := entry_intro m) (hout := exit_elim m)
    (QY := Rest m)
    (hY := rest_read m)
    (hQ := fun _ h hs => ⟨fun c => ⟨fun w => (h c).1 w, (h c).2.2.2⟩, sem_eq_zero hs fun c => (h c).2.2.1⟩)

end Cert.KernelIdeal.RingProof

end
-- ==== Proof.RingFinal.lean ====
/-
# What the arrays hold at the end

The launch's run, read at the four arrays of the kernel: the result is the rows computed, the arguments are what they were.
-/
module

public import proofs.«01_k».proof.Proof.RingLaunch

@[expose] public section

noncomputable section

namespace Cert.KernelIdeal.RingProof

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The gain, which its window only reads, is unchanged. -/
theorem gain_end (c : Dev nD) : finalA m c (0 : Fin 2) = m (win0_0.arr.view.loc (c : Thread nD τ)) :=
  (dats (F := F) m 0 c).arrAt_in (0 : Fin 2) rfl _

/-- The result's one block, which is the whole array, holds the rows computed. -/
theorem result_block (c : Dev nD) : (win0_1.blk (0 : Fin 1)).view.read (Elt F) (finalA m c (1 : Fin 2)) = outV m := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from flush0_1 _, if_pos rfl]
  exact View.read_write_univ _ _

/-- The result's one block starts at the origin. -/
theorem result_origin : (fun a => (win0_1.index (0 : Fin 1)) a * main_v1.ty.shape.size a) = fun _ => 0 :=
  funext fun a => by fin_cases a <;> decide
/-- The gain's one block starts at the origin. -/
theorem gain_origin : (fun a => (win0_0.index (0 : Fin 1)) a * main_arg2.ty.shape.size a) = fun _ => 0 :=
  funext fun a => by fin_cases a; decide

/-- What the result's array holds at the end. -/
theorem result_end (c : Dev nD) : finalA m c (1 : Fin 2) = outV m := by
  have h := result_block m c
  have hr := fun f => Memref.read_access_unit_zero (Elt F) main_v1 result_origin (fun a => by fin_cases a <;> decide) f
  rw [hr] at h
  exact h

/-- The gain as a window reads it is the whole argument. -/
theorem gain_whole (c : Dev nD) : gamOf m c = m ((c : Thread nD τ).loc main_arg2) :=
  Memref.read_access_unit_zero (Elt F) main_arg2 gain_origin (fun a => by fin_cases a; decide) _

/-- The kernel's run: every device ends with the computed rows in its result, its arguments as they were, and all counters at zero. -/
theorem run_end : θ_run defs (onTc (τ := τ) (main (F := F))) ⟨m, fun _ => 0, ρ⟩ (fun r => (∀ c : Dev nD,
      r.2.mem ((c : Thread nD τ).loc main_v1) = outV m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨((h.1 c).1 (1 : Fin 2)).trans (result_end m c), (h.1 c).2.1, (h.1 c).2.2,
    ((h.1 c).1 (0 : Fin 2)).trans (gain_end m c)⟩, h.2⟩) (run_main m ρ)

end Cert.KernelIdeal.RingProof

end
-- ==== Proof.RefRows.lean ====
/-
# The reference, row by row

What the reference's list of host operations leaves at each place of its result: the row's sum over the eight partial results and
the residual, divided by the root of its mean square, times the gain.
-/
module

public import proofs.«01_k».proof.Proof.Gen.ReferenceIdeal.Run
public import Idealize.ShloMosaic.Lib.Pointwise

@[expose] public section

noncomputable section

namespace Cert.RowNorm

open Idealize.ShloMosaic Idealize.SL.Sem

/-- One element of a normalised row: `f` is the row, `q` the place in it, `γ` the gain there. -/
def rowNorm (f : Fin 2048 → EReal) (q : Fin 2048) (γ : EReal) : EReal :=
  Ideal.div (f q) (Ideal.sqrt (Ideal.div (∑ x, f x * f x) (Ideal.ofBits FTy.f32 0x45000000#32) + Ideal.ofBits FTy.f32 0x358637BD#32)) * γ

section
open Cert.ReferenceIdeal Cert.ReferenceIdeal.Gen

/-- The sum of the partial results and the residual. -/
def refSum (A : FVec Ideal S8x2048x2048 .f32) (R : FVec Ideal S2048x2048 .f32) : FVec Ideal S2048x2048 .f32 :=
  addf (Host.reduceAdd A (constant S_ .f32 0x00000000#32) reducesTo_S8x2048x2048_S2048x2048_d0 h_S_) R

/-- The reference's result. -/
def refOut (A : FVec Ideal S8x2048x2048 .f32) (R : FVec Ideal S2048x2048 .f32) (g : FVec Ideal S2048 .f32) : FVec Ideal S2048x2048 .f32 :=
  mulf (Host.divf (refSum A R) (broadcastInDim S2048x2048 ![0, 1] bcast_S2048x1_S2048x2048_0_1
      (Host.sqrt (addf (Host.divf (broadcastInDim S2048x1 ![0] bcast_S2048_S2048x1_0
            (Host.reduceAdd (mulf (refSum A R) (refSum A R)) (constant S_ .f32 0x00000000#32) reducesTo_S2048x2048_S2048_d1 h_S_))
          (broadcastInDim S2048x1 ![] bcast_S_S2048x1 (constant S_ .f32 0x45000000#32)))
        (broadcastInDim S2048x1 ![] bcast_S_S2048x1 (constant S_ .f32 0x358637BD#32))))))
    (broadcastInDim S2048x2048 ![0, 1] bcast_S1x2048_S2048x2048_0_1 (broadcastInDim S1x2048 ![1] bcast_S2048_S1x2048_1 g))

/-- The reference's sum at a place. -/
theorem refSum_apply (A : FVec Ideal S8x2048x2048 .f32) (R : FVec Ideal S2048x2048 .f32) (p q : Fin 2048) :
    refSum A R (ix2 p q) = (∑ d : Fin 8, A (ix3 d p q)) + R (ix2 p q) := by
  pointwise [refSum]

/-- The reference's result at a place. -/
theorem refOut_apply (A : FVec Ideal S8x2048x2048 .f32) (R : FVec Ideal S2048x2048 .f32) (g : FVec Ideal S2048 .f32) (p q : Fin 2048) :
    refOut A R g (ix2 p q) = rowNorm (fun x => (∑ d : Fin 8, A (ix3 d p x)) + R (ix2 p x)) q (g (ix1 q)) := by
  unfold refOut rowNorm
  pointwise
  simp only [refSum_apply]

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ
end

end Cert.RowNorm

end
-- ==== Proof.RingValue.lean ====
/-
# What the kernel computes, over the extended reals

A lane's rows arrive at the device that finishes them as a sum that went round the ring, one device's rows at a time; every device
gave its rows of that chunk exactly once, so the sum is the sum over the devices, in any order.
-/
module

public import proofs.«01_k».proof.Proof.RingFinal
public import proofs.«01_k».proof.Proof.RefRows
public import Idealize.ShloMosaic.Lib.Pointwise
public import Idealize.ShloMosaic.Lib.Layout
public import Idealize.ShloMosaic.Lib.Pipeline.ValueKit.Geometry

@[expose] public section

noncomputable section

namespace Cert.KernelIdeal.RingProof

open Cert.KernelIdeal Cert.KernelIdeal.Gen Cert.RowNorm

open Idealize.ShloMosaic
open Idealize.ShloMosaic.TcCoe

/-! ## Rows of the arrays -/

/-- Row `a` of lane `l`'s rows of chunk `k`. -/
def rowAt (k : Fin 8) (l : Fin 4) (a : Fin 64) : Fin 2048 := ⟨256 * k.val + 64 * l.val + a.val, by have := k.isLt; have := l.isLt; have := a.isLt; omega⟩

/-- Where a lane's rows of a hop's chunk lie in the device's partial result. -/
theorem off4_val : ∀ (c : Dev nD) (l : Fin 4) (n : Fin 8), k0_off4 c (hopW l n.val) (rowW l) = ![0, 256 * (chunkOf c l n).val + 64 * l.val, 0] := by
  decide +kernel
/-- Where the device's own chunk lies in its partial result. -/
theorem off1_val : ∀ c : Dev nD, k0_off1 c = ![0, 256 * c.val, 0] := by decide +kernel
/-- Where the rows that a lane finishes lie. -/
theorem ownA_val : ∀ (c : Dev nD) (l : Fin 4), ownA c l = ![256 * (chunkOf c l 7).val + 64 * l.val, 0] := by decide +kernel

section
variable {F : FTy → Type} [FloatOps F] (m : (ℓ : Loc nD τ sig) → Buf (Elt F) ℓ)

/-- An element of a device's partial result. -/
abbrev parAt (c : Dev nD) (p q : Fin 2048) : F .f32 := (parOf m c : FVec F S1x2048x2048 .f32) (ix3 0 p q)

/-- The rows staged for a hop, as a part of the partial result. -/
theorem Bl_eq (c : Dev nD) (l : Fin 4) (n : Fin 8) :
    Bl m c l n = shapeCast S64x2048 (fun i : S1x64x2048.Idx => (parOf m c : FVec F S1x2048x2048 .f32)
      ((Rect.unit (s := S1x2048x2048) (k0_off4 c (hopW l n.val) (rowW l)) S1x64x2048.size (inb_row4 c l n)).emb i)) shapeCasts_S1x64x2048_S64x2048 := rfl

/-- The own chunk, as a part of the partial result. -/
theorem mineVal_eq (c : Dev nD) :
    mineVal m c = shapeCast S256x2048 (fun i : S1x256x2048.Idx => (parOf m c : FVec F S1x2048x2048 .f32)
      ((Rect.unit (s := S1x2048x2048) (k0_off1 c) S1x256x2048.size (k0_off1_inb c)).emb i)) (by decide) := rfl

/-- Lane `l`'s rows of the chunk it is at after `n` hops, element by element. -/
theorem Bl_apply (c : Dev nD) (l : Fin 4) (n : Fin 8) (a : Fin 64) (q : Fin 2048) : Bl m c l n (ix2 a q) = parAt m c (rowAt (chunkOf c l n) l a) q := by
  rw [Bl_eq]
  pointwise
  refine congrArg (parOf m c : FVec F S1x2048x2048 .f32) (funext fun b => Fin.ext ?_)
  refine (ValueKit.rect_emb_unit_val _ _ _ _ _).trans ?_
  refine (congrArg (· + _) (congrFun (off4_val c l n) b)).trans ?_
  fin_cases b <;> simp [ix3, rowAt]

/-- The own chunk, element by element. -/
theorem mine_apply (c : Dev nD) (a : Fin 256) (q : Fin 2048) : mineVal m c (ix2 a q) = parAt m c ⟨256 * c.val + a.val, by have := a.isLt; have : c.val < 8 := c.isLt; omega⟩ q := by
  rw [mineVal_eq]
  pointwise
  refine congrArg (parOf m c : FVec F S1x2048x2048 .f32) (funext fun b => Fin.ext ?_)
  refine (ValueKit.rect_emb_unit_val _ _ _ _ _).trans ?_
  refine (congrArg (· + _) (congrFun (off1_val c) b)).trans ?_
  fin_cases b <;> simp [ix3]

/-- A lane starts at the device's own chunk. -/
theorem chunk_start : ∀ (c : Dev nD) (l : Fin 4), chunkOf c l 0 = ⟨c.val, c.isLt⟩ := by decide +kernel

/-- What a lane sends at first is its rows of the device's own chunk. -/
theorem first_apply (c : Dev nD) (l : Fin 4) (a : Fin 64) (q : Fin 2048) : Sm m l 0 c (ix2 a q) = parAt m c (rowAt (chunkOf c l 0) l a) q := by
  have h : Sm m l 0 c (ix2 a q) = mineVal m c (ix2 ⟨64 * l.val + a.val, by have := a.isLt; have := l.isLt; omega⟩ q) := by
    refine congrArg (mineVal m c) (funext fun b => Fin.ext ?_)
    refine (ValueKit.rect_emb_unit_val _ _ _ _ _).trans ?_
    fin_cases b <;> simp [ix2]
  rw [h, mine_apply, chunk_start]
  refine congrArg (parOf m c : FVec F S1x2048x2048 .f32) (funext fun b => Fin.ext ?_)
  fin_cases b <;> simp [ix3, rowAt, Nat.add_assoc]

/-- The residual's rows of the chunk that the lane finishes. -/
theorem rsv_apply (c : Dev nD) (l : Fin 4) (a : Fin 64) (q : Fin 2048) :
    rsv m c l (ix2 a q) = (rsdOf m c : FVec F S2048x2048 .f32) (ix2 (rowAt (chunkOf c l 7) l a) q) := by
  refine congrArg (rsdOf m c : FVec F S2048x2048 .f32) (funext fun b => Fin.ext ?_)
  refine (ValueKit.rect_emb_unit_val _ _ _ _ _).trans ?_
  refine (congrArg (· + _) (congrFun (ownA_val c l) b)).trans ?_
  fin_cases b <;> simp [ix2, rowAt]
end

/-! ## The sum round the ring -/

section
variable (m : (ℓ : Loc nD τ sig) → Buf (Elt Ideal) ℓ)

/-- The device whose rows come `n`-th into the sum that device `c` finishes. -/
def giver (c : Dev nD) (l : Fin 4) (n : Fin 8) : Dev nD := (frm l)^[7 - n.val] c

/-- Every device gives its rows to a sum exactly once. -/
theorem giver_bijective : ∀ (c : Dev nD) (l : Fin 4), Function.Bijective (giver c l) := by decide +kernel
/-- All devices give their rows of the same chunk, the one that is finished. -/
theorem giver_chunk : ∀ (c : Dev nD) (l : Fin 4) (n : Fin 8), chunkOf (giver c l n) l n = chunkOf c l 7 := by decide +kernel

/-- The sum that went round the ring is the sum over the devices. -/
theorem sum_apply (c : Dev nD) (l : Fin 4) (a : Fin 64) (q : Fin 2048) :
    (Sm m l 7 c (ix2 a q) : EReal) = ∑ d : Dev nD, (parAt m d (rowAt (chunkOf c l 7) l a) q : EReal) := by
  have h (n : Fin 8) : (parAt m (giver c l n) (rowAt (chunkOf (giver c l n) l n) l a) q : EReal) = parAt m (giver c l n) (rowAt (chunkOf c l 7) l a) q := by
    rw [giver_chunk]
  rw [← (giver_bijective c l).sum_comp fun d => (parAt m d (rowAt (chunkOf c l 7) l a) q : EReal), Finset.sum_congr rfl fun n _ => (h n).symm]
  rw [show (∑ n : Fin 8, (parAt m (giver c l n) (rowAt (chunkOf (giver c l n) l n) l a) q : EReal))
      = Sm m l 0 (giver c l 0) (ix2 a q) + Bl m (giver c l 1) l 1 (ix2 a q) + Bl m (giver c l 2) l 2 (ix2 a q) + Bl m (giver c l 3) l 3 (ix2 a q)
        + Bl m (giver c l 4) l 4 (ix2 a q) + Bl m (giver c l 5) l 5 (ix2 a q) + Bl m (giver c l 6) l 6 (ix2 a q) + Bl m (giver c l 7) l 7 (ix2 a q) by
    simp only [Bl_apply, first_apply]; exact Fin.sum_univ_eight _]
  rfl

/-! ## The rows finished -/

/-- The normalised rows, element by element. -/
theorem normF_apply (a r : FVec Ideal S64x2048 .f32) (g : FVec Ideal S2048 .f32) (p : Fin 64) (q : Fin 2048) :
    normF a r g (ix2 p q) = rowNorm (fun x => a (ix2 p x) + r (ix2 p x)) q (g (ix1 q)) := by
  unfold normF rowNorm
  pointwise

/-- The chunk that a chunk's maker finishes is that chunk. -/
theorem maker_chunk : ∀ (l : Fin 4) (k : Fin 8), chunkOf (maker l k) l 7 = k := by decide +kernel

/-- The kernel's result at a place, from the devices' partial results and the maker's residual and gain. -/
theorem outV_apply (p q : Fin 2048) :
    outV m (ix2 p q) = rowNorm (fun x => (∑ d : Dev nD, (parAt m d p x : EReal))
        + (rsdOf m (maker (laneAt (ix2 p q)) (chunkAt (ix2 p q))) : FVec Ideal S2048x2048 .f32) (ix2 p x)) q
      (gamOf m (maker (laneAt (ix2 p q)) (chunkAt (ix2 p q))) (ix1 q)) := by
  have hp := p.isLt
  have hb : inBlk (ix2 p q) = ix2 (⟨p.val % 64, Nat.mod_lt _ (by decide)⟩ : Fin 64) q := by
    funext b; fin_cases b <;> rfl
  have hr : rowAt (chunkAt (ix2 p q)) (laneAt (ix2 p q)) ⟨p.val % 64, Nat.mod_lt _ (by decide)⟩ = p := by
    refine Fin.ext ?_
    show 256 * (p.val / 256) + 64 * (p.val / 64 % 4) + p.val % 64 = p.val
    omega
  unfold outV Zv
  rw [hb, normF_apply]
  simp only [sum_apply, rsv_apply, maker_chunk, hr]

end

/-! ## The equation -/

/-- With every device holding its block of the partial results, and the whole residual and gain, the kernel's result is the
    reference's. -/
theorem outV_eq (m : (ℓ : Loc nD τ sig) → Buf (Elt Ideal) ℓ) (A : FVec Ideal Cert.ReferenceIdeal.S8x2048x2048 .f32)
    (R : FVec Ideal Cert.ReferenceIdeal.S2048x2048 .f32) (g : FVec Ideal Cert.ReferenceIdeal.S2048 .f32)
    (h : ∀ c : Dev nD, m ((c : Thread nD τ).loc main_arg0) = Layout.block ⟨3, ![1, 2048, 2048]⟩ ⟨3, ![8, 2048, 2048]⟩ 0 8 c A
      ∧ m ((c : Thread nD τ).loc main_arg1) = R ∧ m ((c : Thread nD τ).loc main_arg2) = g) :
    outV m = refOut A R g := by
  have hpar (d : Dev nD) (p q : Fin 2048) : parAt m d p q = A (ix3 d p q) := by
    unfold parAt parOf
    rw [(h d).1]
    refine congrArg A (funext fun b => Fin.ext ?_)
    refine (Layout.Tiles.idx_val _ _ _ _).trans ?_
    fin_cases b <;> simp [ix3]
  have hat (p q : Fin 2048) : outV m (ix2 p q) = refOut A R g (ix2 p q) := by
    rw [outV_apply, refOut_apply]
    simp only [hpar, gain_whole, (h _).2.2]
    unfold rsdOf
    simp only [(h _).2.1]
  funext i
  have hi : i = (ix2 (n0 := 2048) (n1 := 2048) (i 0) (i 1) : S2048x2048.Idx) := funext fun b => by fin_cases b <;> rfl
  rw [hi]
  exact hat _ _

end Cert.KernelIdeal.RingProof

end
-- ==== Proof.lean ====
/-
# The certificate

The two frames of the kernel are one run, at the machine's float words and at the extended reals; the reference's run is its
list of host operations; the equation
of the two results is in RingValue.
-/
module

public import proofs.«01_k».proof.Defs
public import proofs.«01_k».proof.Proof.Gen.ReferenceIdeal.Run
public import proofs.«01_k».proof.Proof.RingFinal
public import proofs.«01_k».proof.Proof.RingValue
public import proofs.«01_k».proof.Proof.Words.RingFinal
public import Idealize.ShloMosaic.Adequacy
public import Idealize.ShloMosaic.Init

@[expose] public section

noncomputable section

namespace Cert.Proof

open Idealize.ShloMosaic Idealize.SL.Sem

/-- The kernel at the machine's float words: it ends, leaves its arguments as they were and every counter at zero. -/
theorem frame_kernel : Cert.quiescent_Kernel (hKernel := Cert.Kernel.Gen.facts) := fun m ρ _ =>
  (θ_run _ _ _).mono (fun _ h => ⟨fun c => (h.1 c).2, h.2⟩) (Cert.Kernel.RingProof.run_end (F := Bits) m ρ)

/-- The same over the extended reals. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.RingProof.run_end (F := Ideal) m ρ)

/-- The reference ends, leaves its arguments as they were, and has no counters. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- Over the extended reals every device's result of the kernel is the reference's, the devices holding their blocks of its partial
    results and its whole residual and gain. -/
theorem algebraic : Cert.algebraic_KernelIdeal_ReferenceIdeal (hKernelIdeal := Cert.KernelIdeal.Gen.facts)
    (hReferenceIdeal := Cert.ReferenceIdeal.Gen.facts) := fun m g m' g' _ h =>
  ⟨_, (θ_run _ _ _).mono (fun _ e c => ⟨(e.1 c).1.trans (Cert.KernelIdeal.RingProof.outV_eq m _ _ _ h), (e.1 c).2⟩)
      (Cert.KernelIdeal.RingProof.run_end (F := Ideal) m g),
    (θ_run _ _ _).mono (fun _ e => e 0) (Cert.RowNorm.ref_run m' g')⟩

/-- The five claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
